-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x512 : Shape := ⟨3, ![1, 4096, 512]⟩
abbrev S1x4096x4096 : Shape := ⟨3, ![1, 4096, 4096]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S1x512x512 : Shape := ⟨3, ![1, 512, 512]⟩
abbrev S5x512x512 : Shape := ⟨3, ![5, 512, 512]⟩
abbrev S1x512 : Shape := ⟨2, ![1, 512]⟩
abbrev S8x512 : Shape := ⟨2, ![8, 512]⟩
abbrev S1x8x512 : Shape := ⟨3, ![1, 8, 512]⟩
abbrev S5x8x512 : Shape := ⟨3, ![5, 8, 512]⟩
abbrev S4096x256 : Shape := ⟨2, ![4096, 256]⟩
abbrev S1x256x512 : Shape := ⟨3, ![1, 256, 512]⟩
abbrev S1x256x4096 : Shape := ⟨3, ![1, 256, 4096]⟩
abbrev S256x256 : Shape := ⟨2, ![256, 256]⟩
abbrev S4096x512 : Shape := ⟨2, ![4096, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S4x512 : Shape := ⟨2, ![4, 512]⟩
abbrev S2x512 : Shape := ⟨2, ![2, 512]⟩
abbrev S1x1x512 : Shape := ⟨3, ![1, 1, 512]⟩
abbrev S256x4096 : Shape := ⟨2, ![256, 4096]⟩

abbrev nBuf : Space → Nat
  | .hbm => 88
  | .vmem => 13
  | .smem => 0
  | _ => 0

abbrev bufTy : (tb : Table) → Fin (tcTables nBuf tb) → BufTy
  | .hbm, ⟨0, _⟩ => ⟨S1x4096x512, .f32⟩
  | .hbm, ⟨1, _⟩ => ⟨S1x4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S256, .f32⟩
  | .hbm, ⟨13, _⟩ => ⟨S256, .f32⟩
  | .hbm, ⟨14, _⟩ => ⟨S_, .i32⟩
  | .hbm, ⟨15, _⟩ => ⟨S_, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S1x512x512, .f32⟩
  | .hbm, ⟨20, _⟩ => ⟨S1x512x512, .f32⟩
  | .hbm, ⟨21, _⟩ => ⟨S1x512x512, .f32⟩
  | .hbm, ⟨22, _⟩ => ⟨S1x512x512, .f32⟩
  | .hbm, ⟨23, _⟩ => ⟨S1x512x512, .f32⟩
  | .hbm, ⟨24, _⟩ => ⟨S5x512x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S8x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S8x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S8x512, .f32⟩
  | .hbm, ⟨54, _⟩ => ⟨S_, .i32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S8x512, .f32⟩
  | .hbm, ⟨66, _⟩ => ⟨S_, .i32⟩
  | .hbm, ⟨67, _⟩ => ⟨S_, .f32⟩
  | .hbm, ⟨68, _⟩ => ⟨S512, .f32⟩
  | .hbm, ⟨69, _⟩ => ⟨S_, .i32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S8x512, .f32⟩
  | .hbm, ⟨81, _⟩ => ⟨S1x8x512, .f32⟩
  | .hbm, ⟨82, _⟩ => ⟨S1x8x512, .f32⟩
  | .hbm, ⟨83, _⟩ => ⟨S1x8x512, .f32⟩
  | .hbm, ⟨84, _⟩ => ⟨S1x8x512, .f32⟩
  | .hbm, ⟨85, _⟩ => ⟨S1x8x512, .f32⟩
  | .hbm, ⟨86, _⟩ => ⟨S5x8x512, .f32⟩
  | .hbm, ⟨87, _⟩ => ⟨S4096x256, .f32⟩
  | .local _ .vmem, ⟨0, _⟩ => ⟨S1x256x512, .f32⟩
  | .local _ .vmem, ⟨1, _⟩ => ⟨S1x256x512, .f32⟩
  | .local _ .vmem, ⟨2, _⟩ => ⟨S1x256x4096, .f32⟩
  | .local _ .vmem, ⟨3, _⟩ => ⟨S1x256x4096, .f32⟩
  | .local _ .vmem, ⟨4, _⟩ => ⟨S1x512x512, .f32⟩
  | .local _ .vmem, ⟨5, _⟩ => ⟨S1x512x512, .f32⟩
  | .local _ .vmem, ⟨6, _⟩ => ⟨S1x8x512, .f32⟩
  | .local _ .vmem, ⟨7, _⟩ => ⟨S1x8x512, .f32⟩
  | .local _ .vmem, ⟨8, _⟩ => ⟨S256x256, .f32⟩
  | .local _ .vmem, ⟨9, _⟩ => ⟨S256x256, .f32⟩
  | .local _ .vmem, ⟨10, _⟩ => ⟨S4096x512, .f32⟩
  | .local _ .vmem, ⟨11, _⟩ => ⟨S4096x512, .f32⟩
  | .local _ .vmem, ⟨12, _⟩ => ⟨S8x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_1 : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_2 : Ref sig .tc := ⟨.hbm, 66, rfl⟩
abbrev main_call2_v0 : Ref sig .tc := ⟨.hbm, 67, rfl⟩
abbrev main_v46 : Ref sig .tc := ⟨.hbm, 68, rfl⟩
abbrev main_c_3 : Ref sig .tc := ⟨.hbm, 69, rfl⟩
abbrev main_call3_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c256_i32 : BitVec 32 := 256#32
  let v21 : BitVec 32 := Scalar.muli arg1 c256_i32
  let v22 : Index := Scalar.indexCast v21
  let c0_10 : Index := 0#32
  ![v22.toNat, 0]
def k0_cond2 (i : grid0.Coords) : BitVec 1 :=
  let arg0 : BitVec 32 := BitVec.ofNat 32 (i 0).val
  let c2_i32 : BitVec 32 := 2#32
  let v3 : BitVec 1 := Scalar.cmpi .sge arg0 c2_i32
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_5 : BitVec 32 := 0#32
  let c16_i32 : BitVec 32 := 16#32
  let v17 : BitVec 32 := Scalar.addi c0_i32_5 c16_i32
  let c1_i32_6 : BitVec 32 := 1#32
  ⟨c0_i32_5, v17, c1_i32_6⟩
def k0_off2 (k0_t1 : Fin k0_t1_loop.trips) : Fin 2 → Nat :=
  let c0_i32_5 : BitVec 32 := 0#32
  let c1_i32_6 : BitVec 32 := 1#32
  let arg10 : BitVec 32 := Scf.iv c0_i32_5 c1_i32_6 k0_t1
  let c256_i32 : BitVec 32 := 256#32
  let v87 : BitVec 32 := Scalar.muli arg10 c256_i32
  let v88 : Index := Scalar.indexCast v87
  let c0_19 : Index := 0#32
  ![v88.toNat, 0]
@[reducible] def k0_t2_loop : Scf.Loop 32 :=
  let c0_i32_9 : BitVec 32 := 0#32
  let c16_i32_10 : BitVec 32 := 16#32
  let v46 : BitVec 32 := Scalar.addi c0_i32_9 c16_i32_10
  let c1_i32_11 : BitVec 32 := 1#32
  ⟨c0_i32_9, v46, c1_i32_11⟩
def k0_off3 (k0_t2 : Fin k0_t2_loop.trips) : Fin 2 → Nat :=
  let c0_i32_9 : BitVec 32 := 0#32
  let c1_i32_11 : BitVec 32 := 1#32
  let arg10 : BitVec 32 := Scf.iv c0_i32_9 c1_i32_11 k0_t2
  let c256_i32 : BitVec 32 := 256#32
  let v87 : BitVec 32 := Scalar.muli arg10 c256_i32
  let v88 : Index := Scalar.indexCast v87
  let c0_19 : Index := 0#32
  ![v88.toNat, 0]
def k0_cond3 (i : grid0.Coords) : BitVec 1 :=
  let arg0 : BitVec 32 := BitVec.ofNat 32 (i 0).val
  let c3_i32_17 : BitVec 32 := 3#32
  let v84 : BitVec 1 := Scalar.cmpi .sle arg0 c3_i32_17
  let v85 : BitVec 32 := Scalar.extui v84
  let c0_i32_18 : BitVec 32 := 0#32
  let v86 : BitVec 1 := Scalar.cmpi .ne v85 c0_i32_18
  v86

@[reducible] def k0_t3_loop : Scf.Loop 32 :=
  let c0_i32_24 : BitVec 32 := 0#32
  let c8_i32 : BitVec 32 := 8#32
  let v91 : BitVec 32 := Scalar.addi c0_i32_24 c8_i32
  let c1_i32_25 : BitVec 32 := 1#32
  ⟨c0_i32_24, v91, c1_i32_25⟩
def k0_off4 (k0_t3 : Fin k0_t3_loop.trips) : Fin 2 → Nat :=
  let c0_i32_24 : BitVec 32 := 0#32
  let c1_i32_25 : BitVec 32 := 1#32
  let arg10 : BitVec 32 := Scf.iv c0_i32_24 c1_i32_25 k0_t3
  let c512_i32 : BitVec 32 := 512#32
  let v92 : BitVec 32 := Scalar.muli arg10 c512_i32
  let v93 : Index := Scalar.indexCast v92
  let c0_27 : Index := 0#32
  ![v93.toNat, 0]
def k0_cond4 (i : grid0.Coords) : BitVec 1 :=
  let arg0 : BitVec 32 := BitVec.ofNat 32 (i 0).val
  let c1_i32 : BitVec 32 := 1#32
  let v8 : BitVec 1 := Scalar.cmpi .sge arg0 c1_i32
  let c3_i32 : BitVec 32 := 3#32
  let v9 : BitVec 1 := Scalar.cmpi .sle arg0 c3_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off5 (i : grid0.Coords) : Fin 2 → Nat :=
  let arg1 : BitVec 32 := BitVec.ofNat 32 (i 1).val
  let c256_i32 : BitVec 32 := 256#32
  let v27 : BitVec 32 := Scalar.muli arg1 c256_i32
  let v28 : Index := Scalar.indexCast v27
  let c0_13 : Index := 0#32
  ![v28.toNat, 0]
def k0_cond5 (i : grid0.Coords) : BitVec 1 :=
  let arg0 : BitVec 32 := BitVec.ofNat 32 (i 0).val
  let c4_i32 : BitVec 32 := 4#32
  let v13 : BitVec 1 := Scalar.cmpi .eq arg0 c4_i32
  let v14 : BitVec 32 := Scalar.extui v13
  let c0_i32_4 : BitVec 32 := 0#32
  let v15 : BitVec 1 := Scalar.cmpi .ne v14 c0_i32_4
  v15

def k0_off6 (i : grid0.Coords) : Fin 2 → Nat :=
  let arg1 : BitVec 32 := BitVec.ofNat 32 (i 1).val
  let c256_i32 : BitVec 32 := 256#32
  let v16 : BitVec 32 := Scalar.muli arg1 c256_i32
  let v17 : Index := Scalar.indexCast v16
  let c0 : Index := 0#32
  ![v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c3_i32 : BitVec 32 := 3#32
  let v1 : BitVec 1 := Scalar.cmpi .sle arg0 c3_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== ReferenceIdeal.lean ====
abbrev S1x4096x512 : Shape := ⟨3, ![1, 4096, 512]⟩
abbrev S1x4096x4096 : Shape := ⟨3, ![1, 4096, 4096]⟩
abbrev S512x512 : Shape := ⟨2, ![512, 512]⟩
abbrev S512 : Shape := ⟨1, ![512]⟩
abbrev S512x256 : Shape := ⟨2, ![512, 256]⟩
abbrev S256 : Shape := ⟨1, ![256]⟩
abbrev S4096x4096 : Shape := ⟨2, ![4096, 4096]⟩
abbrev S4096x512 : Shape := ⟨2, ![4096, 512]⟩
abbrev S1x1x512 : Shape := ⟨3, ![1, 1, 512]⟩
abbrev S_ : Shape := ⟨0, ![]⟩
abbrev S1x512 : Shape := ⟨2, ![1, 512]⟩
abbrev S1x4096x256 : Shape := ⟨3, ![1, 4096, 256]⟩
abbrev S4096x256 : Shape := ⟨2, ![4096, 256]⟩
abbrev S1x1x256 : Shape := ⟨3, ![1, 1, 256]⟩
abbrev S1x256 : Shape := ⟨2, ![1, 256]⟩

abbrev nBuf : Space → Nat
  | .hbm => 184
  | .vmem => 0
  | .smem => 0
  | _ => 0

abbrev hbmTy0_0 (i : Nat) : BufTy := match i % 128 with
  | 0 => ⟨S1x4096x512, .f32⟩
  | 1 => ⟨S1x4096x4096, .f32⟩
  | 2 => ⟨S512x512, .f32⟩
  | 3 => ⟨S512, .f32⟩
  | 4 => ⟨S512x512, .f32⟩
  | 5 => ⟨S512, .f32⟩
  | 6 => ⟨S512x256, .f32⟩
  | 7 => ⟨S256, .f32⟩
  | 8 => ⟨S512, .f32⟩
  | 9 => ⟨S512, .f32⟩
  | 10 => ⟨S512, .f32⟩
  | 11 => ⟨S512, .f32⟩
  | 12 => ⟨S256, .f32⟩
  | 13 => ⟨S256, .f32⟩
  | 14 => ⟨S1x4096x512, .f32⟩
  | 15 => ⟨S4096x4096, .f32⟩
  | 16 => ⟨S4096x512, .f32⟩
  | 17 => ⟨S4096x512, .f32⟩
  | 18 => ⟨S1x4096x512, .f32⟩
  | 19 => ⟨S1x1x512, .f32⟩
  | 20 => ⟨S1x4096x512, .f32⟩
  | 21 => ⟨S1x4096x512, .f32⟩
  | 22 => ⟨S_, .f32⟩
  | 23 => ⟨S1x4096x512, .f32⟩
  | 24 => ⟨S1x4096x512, .f32⟩
  | 25 => ⟨S4096x512, .f32⟩
  | 26 => ⟨S_, .f32⟩
  | 27 => ⟨S512, .f32⟩
  | 28 => ⟨S_, .f32⟩
  | 29 => ⟨S512, .f32⟩
  | 30 => ⟨S512, .f32⟩
  | 31 => ⟨S_, .i32⟩
  | 32 => ⟨S_, .f32⟩
  | 33 => ⟨S512, .f32⟩
  | 34 => ⟨S1x512, .f32⟩
  | 35 => ⟨S_, .f32⟩
  | 36 => ⟨S1x512, .f32⟩
  | 37 => ⟨S1x512, .f32⟩
  | 38 => ⟨S4096x512, .f32⟩
  | 39 => ⟨S4096x512, .f32⟩
  | 40 => ⟨S4096x512, .f32⟩
  | 41 => ⟨S_, .f32⟩
  | 42 => ⟨S_, .f32⟩
  | 43 => ⟨S_, .f32⟩
  | 44 => ⟨S_, .f32⟩
  | 45 => ⟨S512, .f32⟩
  | 46 => ⟨S512, .f32⟩
  | 47 => ⟨S512, .f32⟩
  | 48 => ⟨S_, .f32⟩
  | 49 => ⟨S_, .i1⟩
  | 50 => ⟨S_, .f32⟩
  | 51 => ⟨S_, .f32⟩
  | 52 => ⟨S512, .f32⟩
  | 53 => ⟨S512, .f32⟩
  | 54 => ⟨S1x512, .f32⟩
  | 55 => ⟨S4096x512, .f32⟩
  | 56 => ⟨S4096x512, .f32⟩
  | 57 => ⟨S_, .f32⟩
  | 58 => ⟨S512, .f32⟩
  | 59 => ⟨S512, .f32⟩
  | 60 => ⟨S512, .f32⟩
  | 61 => ⟨S1x512, .f32⟩
  | 62 => ⟨S4096x512, .f32⟩
  | 63 => ⟨S4096x512, .f32⟩
  | 64 => ⟨S1x512, .f32⟩
  | 65 => ⟨S4096x512, .f32⟩
  | 66 => ⟨S4096x512, .f32⟩
  | 67 => ⟨S1x512, .f32⟩
  | 68 => ⟨S4096x512, .f32⟩
  | 69 => ⟨S4096x512, .f32⟩
  | 70 => ⟨S1x4096x512, .f32⟩
  | 71 => ⟨S1x4096x512, .f32⟩
  | 72 => ⟨S4096x4096, .f32⟩
  | 73 => ⟨S4096x512, .f32⟩
  | 74 => ⟨S4096x512, .f32⟩
  | 75 => ⟨S1x4096x512, .f32⟩
  | 76 => ⟨S1x1x512, .f32⟩
  | 77 => ⟨S1x4096x512, .f32⟩
  | 78 => ⟨S1x4096x512, .f32⟩
  | 79 => ⟨S_, .f32⟩
  | 80 => ⟨S1x4096x512, .f32⟩
  | 81 => ⟨S1x4096x512, .f32⟩
  | 82 => ⟨S4096x512, .f32⟩
  | 83 => ⟨S_, .f32⟩
  | 84 => ⟨S512, .f32⟩
  | 85 => ⟨S_, .f32⟩
  | 86 => ⟨S512, .f32⟩
  | 87 => ⟨S512, .f32⟩
  | 88 => ⟨S_, .i32⟩
  | 89 => ⟨S_, .f32⟩
  | 90 => ⟨S512, .f32⟩
  | 91 => ⟨S1x512, .f32⟩
  | 92 => ⟨S_, .f32⟩
  | 93 => ⟨S1x512, .f32⟩
  | 94 => ⟨S1x512, .f32⟩
  | 95 => ⟨S4096x512, .f32⟩
  | 96 => ⟨S4096x512, .f32⟩
  | 97 => ⟨S4096x512, .f32⟩
  | 98 => ⟨S_, .f32⟩
  | 99 => ⟨S_, .f32⟩
  | 100 => ⟨S_, .f32⟩
  | 101 => ⟨S_, .f32⟩
  | 102 => ⟨S512, .f32⟩
  | 103 => ⟨S512, .f32⟩
  | 104 => ⟨S512, .f32⟩
  | 105 => ⟨S_, .f32⟩
  | 106 => ⟨S_, .i1⟩
  | 107 => ⟨S_, .f32⟩
  | 108 => ⟨S_, .f32⟩
  | 109 => ⟨S512, .f32⟩
  | 110 => ⟨S512, .f32⟩
  | 111 => ⟨S1x512, .f32⟩
  | 112 => ⟨S4096x512, .f32⟩
  | 113 => ⟨S4096x512, .f32⟩
  | 114 => ⟨S_, .f32⟩
  | 115 => ⟨S512, .f32⟩
  | 116 => ⟨S512, .f32⟩
  | 117 => ⟨S512, .f32⟩
  | 118 => ⟨S1x512, .f32⟩
  | 119 => ⟨S4096x512, .f32⟩
  | 120 => ⟨S4096x512, .f32⟩
  | 121 => ⟨S1x512, .f32⟩
  | 122 => ⟨S4096x512, .f32⟩
  | 123 => ⟨S4096x512, .f32⟩
  | 124 => ⟨S1x512, .f32⟩
  | 125 => ⟨S4096x512, .f32⟩
  | 126 => ⟨S4096x512, .f32⟩
  | 127 => ⟨S1x4096x512, .f32⟩
  | _ => ⟨S1x4096x512, .f32⟩

abbrev hbmTy0_1 (i : Nat) : BufTy := match i % 128 with
  | 0 => ⟨S1x4096x256, .f32⟩
  | 1 => ⟨S4096x4096, .f32⟩
  | 2 => ⟨S4096x256, .f32⟩
  | 3 => ⟨S4096x256, .f32⟩
  | 4 => ⟨S1x4096x256, .f32⟩
  | 5 => ⟨S1x1x256, .f32⟩
  | 6 => ⟨S1x4096x256, .f32⟩
  | 7 => ⟨S1x4096x256, .f32⟩
  | 8 => ⟨S_, .f32⟩
  | 9 => ⟨S1x4096x256, .f32⟩
  | 10 => ⟨S1x4096x256, .f32⟩
  | 11 => ⟨S4096x256, .f32⟩
  | 12 => ⟨S_, .f32⟩
  | 13 => ⟨S256, .f32⟩
  | 14 => ⟨S_, .f32⟩
  | 15 => ⟨S256, .f32⟩
  | 16 => ⟨S256, .f32⟩
  | 17 => ⟨S_, .i32⟩
  | 18 => ⟨S_, .f32⟩
  | 19 => ⟨S256, .f32⟩
  | 20 => ⟨S1x256, .f32⟩
  | 21 => ⟨S_, .f32⟩
  | 22 => ⟨S1x256, .f32⟩
  | 23 => ⟨S1x256, .f32⟩
  | 24 => ⟨S4096x256, .f32⟩
  | 25 => ⟨S4096x256, .f32⟩
  | 26 => ⟨S4096x256, .f32⟩
  | 27 => ⟨S_, .f32⟩
  | 28 => ⟨S_, .f32⟩
  | 29 => ⟨S_, .f32⟩
  | 30 => ⟨S_, .f32⟩
  | 31 => ⟨S256, .f32⟩
  | 32 => ⟨S256, .f32⟩
  | 33 => ⟨S256, .f32⟩
  | 34 => ⟨S_, .f32⟩
  | 35 => ⟨S_, .i1⟩
  | 36 => ⟨S_, .f32⟩
  | 37 => ⟨S_, .f32⟩
  | 38 => ⟨S256, .f32⟩
  | 39 => ⟨S256, .f32⟩
  | 40 => ⟨S1x256, .f32⟩
  | 41 => ⟨S4096x256, .f32⟩
  | 42 => ⟨S4096x256, .f32⟩
  | 43 => ⟨S_, .f32⟩
  | 44 => ⟨S256, .f32⟩
  | 45 => ⟨S256, .f32⟩
  | 46 => ⟨S256, .f32⟩
  | 47 => ⟨S1x256, .f32⟩
  | 48 => ⟨S4096x256, .f32⟩
  | 49 => ⟨S4096x256, .f32⟩
  | 50 => ⟨S1x256, .f32⟩
  | 51 => ⟨S4096x256, .f32⟩
  | 52 => ⟨S4096x256, .f32⟩
  | 53 => ⟨S1x256, .f32⟩
  | 54 => ⟨S4096x256, .f32⟩
  | 55 => ⟨S4096x256, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_cst_2 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_cst_3 : Ref sig .tc := ⟨.hbm, 48, rfl⟩
abbrev main_call1_v12 : Ref sig .tc := ⟨.hbm, 49, rfl⟩
abbrev main_call1_cst_4 : Ref sig .tc := ⟨.hbm, 50, rfl⟩
abbrev main_call1_call0_v0 : Ref sig .tc := ⟨.hbm, 51, rfl⟩
abbrev main_call1_call0_v1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call2_cst : Ref sig .tc := ⟨.hbm, 79, rfl⟩
abbrev main_call2_v0 : Ref sig .tc := ⟨.hbm, 80, rfl⟩
abbrev main_v38 : Ref sig .tc := ⟨.hbm, 81, rfl⟩
abbrev main_v39 : Ref sig .tc := ⟨.hbm, 82, rfl⟩
abbrev main_cst_2 : Ref sig .tc := ⟨.hbm, 83, rfl⟩
abbrev main_v40 : Ref sig .tc := ⟨.hbm, 84, rfl⟩
abbrev main_cst_3 : Ref sig .tc := ⟨.hbm, 85, rfl⟩
abbrev main_v41 : Ref sig .tc := ⟨.hbm, 86, rfl⟩
abbrev main_v42 : Ref sig .tc := ⟨.hbm, 87, rfl⟩
abbrev main_c_4 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_cst_1 : Ref sig .tc := ⟨.hbm, 99, rfl⟩
abbrev main_call3_v8 : Ref sig .tc := ⟨.hbm, 100, rfl⟩
abbrev main_call3_cst_2 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_cst_3 : Ref sig .tc := ⟨.hbm, 105, rfl⟩
abbrev main_call3_v12 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_5 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_call4_cst : Ref sig .tc := ⟨.hbm, 136, rfl⟩
abbrev main_call4_v0 : Ref sig .tc := ⟨.hbm, 137, rfl⟩
abbrev main_v68 : Ref sig .tc := ⟨.hbm, 138, rfl⟩
abbrev main_v69 : Ref sig .tc := ⟨.hbm, 139, rfl⟩
abbrev main_cst_6 : Ref sig .tc := ⟨.hbm, 140, rfl⟩
abbrev main_v70 : Ref sig .tc := ⟨.hbm, 141, rfl⟩
abbrev main_cst_7 : Ref sig .tc := ⟨.hbm, 142, rfl⟩
abbrev main_v71 : Ref sig .tc := ⟨.hbm, 143, rfl⟩
abbrev main_v72 : Ref sig .tc := ⟨.hbm, 144, rfl⟩
abbrev main_c_8 : Ref sig .tc := ⟨.hbm, 145, rfl⟩
abbrev main_call5_cst : Ref sig .tc := ⟨.hbm, 146, rfl⟩
abbrev main_call5_v0 : Ref sig .tc := ⟨.hbm, 147, rfl⟩
abbrev main_call5_v1 : Ref sig .tc := ⟨.hbm, 148, rfl⟩
abbrev main_call5_cst_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_cst_1 : Ref sig .tc := ⟨.hbm, 156, rfl⟩
abbrev main_call5_v8 : Ref sig .tc := ⟨.hbm, 157, rfl⟩
abbrev main_call5_cst_2 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_cst_3 : Ref sig .tc := ⟨.hbm, 162, rfl⟩
abbrev main_call5_v12 : Ref sig .tc := ⟨.hbm, 163, rfl⟩
abbrev main_call5_cst_4 : Ref sig .tc := ⟨.hbm, 164, rfl⟩
abbrev main_call5_call0_v0 : Ref sig .tc := ⟨.hbm, 165, rfl⟩
abbrev main_call5_call0_v1 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_cst_9 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩

abbrev nD : Nat := 1
abbrev τ : Topo := Topo.v7x

variable {F : FTy → Type} [FloatOps F]
-- ==== Proof.KernelBody.lean ====
/-
  The kernel body of `Kernel`, run once per control case at symbolic operands: from the windows and the three scratch
  buffers held at anything, the body runs to its return and hands the input windows back as they were.
-/
module

public import proofs.«01_k».proof.Proof.Gen.Kernel.Frame
public import proofs.«01_k».proof.Proof.Gen.Kernel.Loops

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a memref's buffer on core `c` holds, held whole behind the memref's view. -/
abbrev held (c : Dev nD) {sp : Space} {S : Shape} {e : EltTy} (M : Memref sig .tc sp S e) (f : BufTy.Contents (Elt F) M.view.ty) : sProp 𝕄 :=
  M.view.loc (c : Thread nD τ) ↦[M.view.set]{fullShare} f

/-- The five ways the body's conditions combine over the grid: phase 0; a layer; a layer that starts by normalising;
    the last normalisation's first point; and its later points. -/
def Cases (i : grid0.Coords) : Prop :=
  (k0_cond1 i = 1#1 ∧ ¬ k0_cond2 i = 1#1 ∧ ¬ k0_cond4 i = 1#1 ∧ ¬ k0_cond5 i = 1#1)
  ∨ (¬ k0_cond1 i = 1#1 ∧ ¬ k0_cond2 i = 1#1 ∧ k0_cond4 i = 1#1 ∧ ¬ k0_cond5 i = 1#1)
  ∨ (¬ k0_cond1 i = 1#1 ∧ k0_cond2 i = 1#1 ∧ k0_cond3 i = 1#1 ∧ k0_cond4 i = 1#1 ∧ ¬ k0_cond5 i = 1#1)
  ∨ (¬ k0_cond1 i = 1#1 ∧ k0_cond2 i = 1#1 ∧ ¬ k0_cond3 i = 1#1 ∧ ¬ k0_cond4 i = 1#1 ∧ k0_cond5 i = 1#1)
  ∨ (¬ k0_cond1 i = 1#1 ∧ ¬ k0_cond2 i = 1#1 ∧ ¬ k0_cond4 i = 1#1 ∧ k0_cond5 i = 1#1)

/-- Every point of the grid is one of the five. -/
theorem cases (t : Fin grid0.N) : Cases (grid0.coords t) := by
  revert t; unfold Cases; decide +kernel

/-- The body at any point: the inputs unchanged, everything else at some contents. -/
theorem run (c : Dev nD) (i : grid0.Coords)
    (arg2 : Memref sig .tc .vmem S1x256x512 .f32) (harg2 : arg2.IsWhole) (arg3 : Memref sig .tc .vmem S1x256x4096 .f32) (harg3 : arg3.IsWhole)
    (arg4 : Memref sig .tc .vmem S1x512x512 .f32) (harg4 : arg4.IsWhole) (arg5 : Memref sig .tc .vmem S1x8x512 .f32) (harg5 : arg5.IsWhole)
    (arg6 : Memref sig .tc .vmem S256x256 .f32) (harg6 : arg6.IsWhole) (arg7 : Memref sig .tc .vmem S4096x512 .f32) (harg7 : arg7.IsWhole)
    (arg8 : Memref sig .tc .vmem S4096x512 .f32) (harg8 : arg8.IsWhole) (arg9 : Memref sig .tc .vmem S8x512 .f32) (harg9 : arg9.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (hc : Cases i) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) i arg2 harg2 arg3 harg3 arg4 harg4 arg5 harg5 arg6 harg6 arg7 harg7 arg8 harg8 arg9 harg9) K := by
  rw [cc0__gcn_body_eq_skeleton]; unfold cc0__gcn_body_skel
  rcases hc with ⟨h1, h2, h4, h5⟩ | ⟨h1, h2, h4, h5⟩ | ⟨h1, h2, h3, h4, h5⟩ | ⟨h1, h2, h3, h4, h5⟩ | ⟨h1, h2, h4, h5⟩
  · iintro ⟨H2, H3, H4, H5, H6, H7, H8, H9, HK⟩
    sl_exec
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H2, H3, H4, H5, H6, H7, H8, H9, HK⟩
    sl_exec
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H2, H3, H4, H5, H6, H7, H8, H9, HK⟩
    sl_exec
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H2, H3, H4, H5, H6, H7, H8, H9, HK⟩
    sl_exec
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H2, H3, H4, H5, H6, H7, H8, H9, HK⟩
    sl_exec
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Kernel.Body

end
-- ==== Proof.KernelRun.lean ====
/-
  `Kernel`'s run: the proof data with the output window forgotten, the body obligation off `Body.run`, the launch, and
  the frame claim read off the run's post.
-/
module

public import proofs.«01_k».proof.Defs
public import proofs.«01_k».proof.Proof.KernelBody

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output window is forgotten: a frame says nothing of it. -/
def fgt : Fin 5 → Bool := fun | 4 => true | _ => false

/-- The proof data on core `c`: each array as the region finds it; the input windows left in place; the scratch at
    anything; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by dsimp only [dats]

/-- A step finds its block of the features staged. -/
theorem before_0 (c : Dev nD) (t : Fin cfg0.N) (d) : (dats m 0 c).before 0 t d = iblk m c 0 t :=
  before0_0_of m (dats m 0 c) (A_eq m c 0) (fun _ => by dsimp only [dats]) t d
/-- A step finds its block of the adjacency matrix staged. -/
theorem before_1 (c : Dev nD) (t : Fin cfg0.N) (d) : (dats m 0 c).before 1 t d = iblk m c 1 t :=
  before0_1_of m (dats m 0 c) (A_eq m c 1) (fun _ => by dsimp only [dats]) t d
/-- A step finds its block of the weights staged. -/
theorem before_2 (c : Dev nD) (t : Fin cfg0.N) (d) : (dats m 0 c).before 2 t d = iblk m c 2 t :=
  before0_2_of m (dats m 0 c) (A_eq m c 2) (fun _ => by dsimp only [dats]) t d
/-- A step finds its block of the parameters staged. -/
theorem before_3 (c : Dev nD) (t : Fin cfg0.N) (d) : (dats m 0 c).before 3 t d = iblk m c 3 t :=
  before0_3_of m (dats m 0 c) (A_eq m c 3) (fun _ => by dsimp only [dats]) t d

/-- What the body is called with at point `t`: the scratch, and each window's staging memref, the inputs at their blocks. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- What it returns: the same, the output's staging memref at some contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The scratch and the generator register, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

/-- The body at a point: the scratch opened, `run`, the scratch closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  simp only [before_0, before_1, before_2, before_3]
  rw [show (dats m 0 c).after 0 t = iblk m c 0 t from by dsimp only [dats], show (dats m 0 c).after 1 t = iblk m c 1 t from by dsimp only [dats],
    show (dats m 0 c).after 2 t = iblk m c 2 t from by dsimp only [dats], show (dats m 0 c).after 3 t = iblk m c 3 t from by dsimp only [dats]]
  unfold owns
  iintro ⟨⟨⟨⟨%d7, %f7, -, H7⟩, ⟨%d8, %f8, -, H8⟩, ⟨%d9, %f9, -, H9⟩⟩, Hg⟩, HO, ⟨%e0, %f0, %h0, H0⟩, ⟨%e1, %f1, %h1, H1⟩, ⟨%e2, %f2, %h2, H2⟩, ⟨%e3, %f3, %h3, H3⟩, ⟨%e4, %f4, -, H4⟩⟩
  iapply (run c (grid0.coords t) _ _ _ _ _ _ _ _ _ _ _ _ _ _ _ _ f0 f1 f2 f3 f4 f7 f8 f9 (cases t) _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  iintro %g4 %g7 %g8 %g9 ⟨H0, H1, H2, H3, H4, H7, H8, H9⟩
  isplitl [H7 H8 H9 Hg]
  · isplitr [Hg]
    · isplitl [H7]
      · iexists _, _; isplitr; swap; · iexact H7
        ipureintro; rfl
      isplitl [H8]
      · iexists _, _; isplitr; swap; · iexact H8
        ipureintro; rfl
      iexists _, _; isplitr; swap; · iexact H9
      ipureintro; rfl
    · iexact Hg
  isplitl [HO]; · iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  iexists _, _; isplitr; swap; · iexact H4
  ipureintro; rfl

/-- The body table's row at a point is the body as the schedule spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every weakly fair execution of the program terminates; the inputs of the region and every other unscoped buffer
    end as the region found them, and every semaphore counter at zero. -/
theorem run_main :
    θ_run defs (onTc (τ := τ) (main (F := F))) (s₀ m ρ)
      (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- `Kernel` runs to its end from any memory, leaves every argument as it was and every counter at zero. -/
theorem frame : Cert.quiescent_Kernel (hKernel := Cert.Kernel.Gen.facts) := fun m ρ _ =>
  (θ_run defs _ _).mono (fun _ h => ⟨fun c =>
    ⟨(h.1.arr_in c 0 rfl).trans (V_main_arg0 m c), (h.1.arr_in c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c)⟩, h.2⟩)
    (run_main m ρ)

end Cert.Kernel.Body

end
-- ==== Proof.LoopValues.lean ====
/-
  What the three counted loops of the idealized kernel body compute, as functions of the arrays they read: the running
  sum of the 256-row slabs, the running sum of their squared deviations, and the slabs of 512 rows the third one stores.
-/
module

public import proofs.«01_k».proof.Proof.Gen.KernelIdeal.Loops
public import Idealize.ShloMosaic.Lib.WritesUnit
public import Idealize.ShloMosaic.Lib.Pointwise

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-- Rows `256k … 256k + 255` of an array of 4096 rows. -/
def rows (T : Vec F S4096x512 .f32) (k : ℕ) : Vec F S256x512 .f32 :=
  fun x => T (ix2 ⟨(256 * k + (x 0).val) % 4096, Nat.mod_lt _ (by decide)⟩ (x 1))

/-- Rows `512k … 512k + 511` of an array of 4096 rows. -/
def rows512 (T : Vec F S4096x512 .f32) (k : ℕ) : Vec F S512x512 .f32 :=
  fun x => T (ix2 ⟨(512 * k + (x 0).val) % 4096, Nat.mod_lt _ (by decide)⟩ (x 1))

/-- The sum of the first `k` slabs of 256 rows. -/
def sum1 (T : Vec F S4096x512 .f32) : ℕ → FVec F S256x512 .f32
  | 0 => k0_pay10
  | k + 1 => k0_pay11 (sum1 T k) (rows T k)

/-- The sum of the first `k` slabs' squared deviations from the mean that `v` gives. -/
def sum2 (v : FVec F S256x512 .f32) (T : Vec F S4096x512 .f32) : ℕ → FVec F S256x512 .f32
  | 0 => k0_pay10
  | k + 1 => k0_pay13 v (sum2 v T k) (rows T k)

/-- The column means. -/
def meanV (T : Vec F S4096x512 .f32) : FVec F S512 .f32 := k0_pay12 (sum1 T 16)

/-- Four partial sums of each column's squared deviations. -/
def s4V (T : Vec F S4096x512 .f32) : FVec F S4x512 .f32 := k0_pay14 (sum2 (sum1 T 16) T 16)

/-- The third loop's slab `k`: normalised rows times the weights. -/
def slab (T : Vec F S4096x512 .f32) (g be : Vec F S1x1x512 .f32) (W : Vec F S1x512x512 .f32) (k : ℕ) : FVec F S512x512 .f32 :=
  k0_pay5 (meanV T) (s4V T) g be (rows512 T k) W

/-- The first loop's trips. -/
theorem trips1 : k0_t1_loop.trips = 16 := by decide +kernel
/-- The second loop's trips. -/
theorem trips2 : k0_t2_loop.trips = 16 := by decide +kernel
/-- The third loop's trips. -/
theorem trips3 : k0_t3_loop.trips = 8 := by decide +kernel

/-- A load of 256 whole rows at row `256k` reads those rows. -/
theorem readAt_rows (arg7 : Memref sig .tc .vmem S4096x512 .f32) (f : BufTy.Contents (Elt F) arg7.view.ty) (k : ℕ) (hk : k < 16)
    {off : Fin 2 → ℕ} (h : ∀ a, off a + S256x512.size a ≤ S4096x512.size a) (ho : off = ![256 * k, 0]) :
    View.readAt (Elt F) arg7.view (Rect.unit (s := S4096x512) off S256x512.size h).toLoadRect f = rows (arg7.view.read (Elt F) f) k := by
  subst ho
  funext x
  rw [View.readAt_apply]
  unfold rows
  refine congrArg (arg7.view.read (Elt F) f) (funext fun a => Fin.ext ?_)
  have hx : (x 0).val < 256 := (x 0).isLt
  fin_cases a
  · show 256 * k + 1 * (x 0).val = (256 * k + (x 0).val) % 4096
    rw [Nat.mod_eq_of_lt (by omega), Nat.one_mul]
  · show 0 + 1 * (x 1).val = (x 1).val
    omega

/-- A load of 512 whole rows at row `512k` reads those rows. -/
theorem readAt_rows512 (arg7 : Memref sig .tc .vmem S4096x512 .f32) (f : BufTy.Contents (Elt F) arg7.view.ty) (k : ℕ) (hk : k < 8)
    {off : Fin 2 → ℕ} (h : ∀ a, off a + S512x512.size a ≤ S4096x512.size a) (ho : off = ![512 * k, 0]) :
    View.readAt (Elt F) arg7.view (Rect.unit (s := S4096x512) off S512x512.size h).toLoadRect f = rows512 (arg7.view.read (Elt F) f) k := by
  subst ho
  funext x
  rw [View.readAt_apply]
  unfold rows512
  refine congrArg (arg7.view.read (Elt F) f) (funext fun a => Fin.ext ?_)
  have hx : (x 0).val < 512 := (x 0).isLt
  fin_cases a
  · show 512 * k + 1 * (x 0).val = (512 * k + (x 0).val) % 4096
    rw [Nat.mod_eq_of_lt (by omega), Nat.one_mul]
  · show 0 + 1 * (x 1).val = (x 1).val
    omega

variable (𝒱 : Variants) (c : Dev nD) (bd : Option 𝒱.V) (i : grid0.Coords)
  (arg2 : Memref sig .tc .vmem S1x256x512 .f32) (harg2 : arg2.IsWhole) (arg3 : Memref sig .tc .vmem S1x256x4096 .f32) (harg3 : arg3.IsWhole)
  (arg4 : Memref sig .tc .vmem S1x512x512 .f32) (harg4 : arg4.IsWhole) (arg5 : Memref sig .tc .vmem S1x8x512 .f32) (harg5 : arg5.IsWhole)
  (arg6 : Memref sig .tc .vmem S256x256 .f32) (harg6 : arg6.IsWhole) (arg7 : Memref sig .tc .vmem S4096x512 .f32) (harg7 : arg7.IsWhole)
  (arg8 : Memref sig .tc .vmem S4096x512 .f32) (harg8 : arg8.IsWhole) (arg9 : Memref sig .tc .vmem S8x512 .f32) (harg9 : arg9.IsWhole)

/-- One trip of the first loop adds its slab. -/
theorem trip1_eq (h2 : k0_cond2 i = 1#1) (X : BufTy.Contents (Elt F) arg7.view.ty) (k : Fin k0_t1_loop.trips) (acc : FVec F S256x512 .f32) :
    tripR_k0_t1 (F := F) 𝒱 c bd i arg2 harg2 arg3 harg3 arg4 harg4 arg5 harg5 arg6 harg6 arg7 harg7 arg8 harg8 arg9 harg9 h2 X k acc
      = k0_pay11 acc (rows (arg7.view.read (Elt F) X) k.val) := by
  rw [← readAt_rows arg7 X k.val (lt_of_lt_of_eq k.isLt trips1) (k0_off2_inb i k h2) (k0_off2_eq k)]
  unfold tripR_k0_t1 trip_k0_t1
  rfl

/-- One trip of the second loop adds its slab's squared deviations. -/
theorem trip2_eq (h2 : k0_cond2 i = 1#1) (v : FVec F S256x512 .f32) (X : BufTy.Contents (Elt F) arg7.view.ty) (k : Fin k0_t2_loop.trips) (acc : FVec F S256x512 .f32) :
    tripR_k0_t2 (F := F) 𝒱 c bd i arg2 harg2 arg3 harg3 arg4 harg4 arg5 harg5 arg6 harg6 arg7 harg7 arg8 harg8 arg9 harg9 h2 v X k acc
      = k0_pay13 v acc (rows (arg7.view.read (Elt F) X) k.val) := by
  rw [← readAt_rows arg7 X k.val (lt_of_lt_of_eq k.isLt trips2) (k0_off3_inb i k h2) (k0_off3_eq k)]
  unfold tripR_k0_t2 trip_k0_t2
  rfl

/-- The value the first loop carries before trip `k`. -/
theorem st1_eq (h2 : k0_cond2 i = 1#1) (X : BufTy.Contents (Elt F) arg7.view.ty) (k : ℕ) (hk : k ≤ 16) :
    st_k0_t1 (F := F) 𝒱 c bd i arg2 harg2 arg3 harg3 arg4 harg4 arg5 harg5 arg6 harg6 arg7 harg7 arg8 harg8 arg9 harg9 h2 X k0_pay10 k
      = sum1 (arg7.view.read (Elt F) X) k := by
  induction k with
  | zero => rfl
  | succ k ih =>
    have hk' : k < k0_t1_loop.trips := by rw [trips1]; omega
    rw [show k + 1 = (⟨k, hk'⟩ : Fin k0_t1_loop.trips).val + 1 from rfl, st_k0_t1_succ, trip1_eq, ih (by omega)]
    rfl

/-- The value the second loop carries before trip `k`. -/
theorem st2_eq (h2 : k0_cond2 i = 1#1) (v : FVec F S256x512 .f32) (X : BufTy.Contents (Elt F) arg7.view.ty) (k : ℕ) (hk : k ≤ 16) :
    st_k0_t2 (F := F) 𝒱 c bd i arg2 harg2 arg3 harg3 arg4 harg4 arg5 harg5 arg6 harg6 arg7 harg7 arg8 harg8 arg9 harg9 h2 v X k0_pay10 k
      = sum2 v (arg7.view.read (Elt F) X) k := by
  induction k with
  | zero => rfl
  | succ k ih =>
    have hk' : k < k0_t2_loop.trips := by rw [trips2]; omega
    rw [show k + 1 = (⟨k, hk'⟩ : Fin k0_t2_loop.trips).val + 1 from rfl, st_k0_t2_succ, trip2_eq, ih (by omega)]
    rfl

/-- One trip of the third loop stores one slab. -/
theorem trip3_eq (h2 : k0_cond2 i = 1#1) (v45 : FVec F S512 .f32) (v65 : FVec F S4x512 .f32) (h3 : k0_cond3 i = 1#1) (g be : Vec F S1x1x512 .f32)
    (X4 : BufTy.Contents (Elt F) arg4.view.ty) (X7 : BufTy.Contents (Elt F) arg7.view.ty) (k : Fin k0_t3_loop.trips) :
    tripL_k0_t3 (F := F) 𝒱 c bd i arg2 harg2 arg3 harg3 arg4 harg4 arg5 harg5 arg6 harg6 arg7 harg7 arg8 harg8 arg9 harg9 h2 v45 v65 h3 g be X4 X7 k
      = [⟨Rect.unit (k0_off4 k) S512x512.size (k0_off4_inb i k h2 h3),
          k0_pay5 v45 v65 g be (rows512 (arg7.view.read (Elt F) X7) k.val)
            (View.readAt (Elt F) arg4.view (Rect.unit ![0, 0, 0] S1x512x512.size inb_S1x512x512_S1x512x512_0_0_0).toLoadRect X4)⟩] := by
  rw [← readAt_rows512 arg7 X7 k.val (lt_of_lt_of_eq k.isLt trips3) (k0_off4_inb i k h2 h3) (k0_off4_eq k)]
  unfold tripL_k0_t3 trip_k0_t3
  rfl

/-- After `K` trips of the third loop, the rows of the first `K` slabs read the slabs. -/
theorem pb3_read (h2 : k0_cond2 i = 1#1) (v45 : FVec F S512 .f32) (v65 : FVec F S4x512 .f32) (h3 : k0_cond3 i = 1#1) (g be : Vec F S1x1x512 .f32)
    (X4 : BufTy.Contents (Elt F) arg4.view.ty) (X7 : BufTy.Contents (Elt F) arg7.view.ty) (G : BufTy.Contents (Elt F) arg8.view.ty)
    (K : ℕ) (hK : K ≤ 8) (k : ℕ) (hk : k < K) (y : S4096x512.Idx) (x : S512x512.Idx) (hy0 : (y 0).val = 512 * k + (x 0).val) (hy1 : (y 1).val = (x 1).val) :
    arg8.view.read (Elt F) (arg8.view.writes (Elt F) G (pb_k0_t3 (F := F) 𝒱 c bd i arg2 harg2 arg3 harg3 arg4 harg4 arg5 harg5 arg6 harg6 arg7 harg7 arg8 harg8 arg9 harg9 h2 v45 v65 h3 g be X4 X7 K)) y
      = k0_pay5 v45 v65 g be (rows512 (arg7.view.read (Elt F) X7) k)
            (View.readAt (Elt F) arg4.view (Rect.unit ![0, 0, 0] S1x512x512.size inb_S1x512x512_S1x512x512_0_0_0).toLoadRect X4) x := by
  induction K with
  | zero => omega
  | succ K ih =>
    have hK' : K < k0_t3_loop.trips := by rw [trips3]; omega
    rw [show K + 1 = (⟨K, hK'⟩ : Fin k0_t3_loop.trips).val + 1 from rfl, pb_k0_t3_succ, trip3_eq, List.singleton_append]
    have hx : (x 0).val < 512 := (x 0).isLt
    by_cases hkK : k = K
    · subst hkK
      exact View.read_writes_cons_rows_of_mem arg8.view _ _ _ _ y x (k0_off4_eq _) hy0 hy1
    · rw [View.read_writes_cons_rows_of_not_mem (W := 512) arg8.view _ _ _ _ y (k0_off4_eq _) rfl (Or.inl (by show (y 0).val < 512 * K; omega))]
      exact ih (by omega) (by omega)

end Cert.KernelIdeal.Body

end
-- ==== Proof.BodyStates.lean ====
/-
  The arrays the idealized kernel body leaves, as functions of the arrays it finds, and the reads they come back through.
-/
module

public import proofs.«01_k».proof.Proof.LoopValues
public import Idealize.ShloMosaic.Lib.Pipeline.ValueKit.Basic

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-- An array of 4096 rows with the 256 rows of block `b` replaced. -/
def putRows (b : ℕ) (P : FVec F S256x512 .f32) (T : Vec F S4096x512 .f32) : Vec F S4096x512 .f32 :=
  fun y => if 256 * b ≤ (y 0).val ∧ (y 0).val < 256 * b + 256 then P (ix2 ⟨((y 0).val - 256 * b) % 256, Nat.mod_lt _ (by decide)⟩ (y 1)) else T y

/-- The eight slabs the third loop stores, as one array. -/
def slabs (T : Vec F S4096x512 .f32) (g be : Vec F S1x1x512 .f32) (W : Vec F S1x512x512 .f32) : Vec F S4096x512 .f32 :=
  fun y => slab T g be W ((y 0).val / 512) (ix2 ⟨(y 0).val % 512, Nat.mod_lt _ (by decide)⟩ (y 1))

/-- One row of a phase's parameters. -/
def prow (P : Vec F S1x8x512 .f32) (r : Fin 8) : Vec F S1x1x512 .f32 := fun x => P (ix3 0 r (x 2))

/-- One row of the statistics. -/
def arow (A : Vec F S8x512 .f32) (r : Fin 8) : Vec F S1x512 .f32 := fun x => A (ix2 r (x 1))

/-- A load of a whole buffer is what the buffer reads. -/
theorem readAt_whole {κ : Kind} {sp : Space} {S : Shape} {e : EltTy} (v : View sig κ sp S e) {off : Fin S.rank → ℕ} (inb : ∀ a, off a + S.size a ≤ S.size a)
    (f : BufTy.Contents (Elt F) v.ty) (h : ∀ a, off a = 0) : View.readAt (Elt F) v (Rect.unit off S.size inb).toLoadRect f = v.read (Elt F) f :=
  View.ld_unit_lit inb (v.read (Elt F) f) h

/-- A load of one parameter row. -/
theorem readAt_prow {κ : Kind} {sp : Space} (v : View sig κ sp S1x8x512 .f32) (r : Fin 8) (inb : ∀ a, (![0, r.val, 0] : Fin 3 → ℕ) a + S1x1x512.size a ≤ S1x8x512.size a)
    (f : BufTy.Contents (Elt F) v.ty) :
    View.readAt (Elt F) v (Rect.unit (s := S1x8x512) ![0, r.val, 0] S1x1x512.size inb).toLoadRect f = prow (v.read (Elt F) f) r := by
  funext x
  rw [View.readAt_apply]
  unfold prow
  refine congrArg (v.read (Elt F) f) (funext fun a => Fin.ext ?_)
  have h0 : (x 0).val < 1 := (x 0).isLt
  have h1 : (x 1).val < 1 := (x 1).isLt
  fin_cases a
  · show 0 + 1 * (x 0).val = 0
    omega
  · show r.val + 1 * (x 1).val = r.val
    omega
  · show 0 + 1 * (x 2).val = (x 2).val
    omega

/-- A load of one row of the statistics. -/
theorem readAt_arow {κ : Kind} {sp : Space} (v : View sig κ sp S8x512 .f32) (r : Fin 8) (inb : ∀ a, (![r.val, 0] : Fin 2 → ℕ) a + S1x512.size a ≤ S8x512.size a)
    (f : BufTy.Contents (Elt F) v.ty) :
    View.readAt (Elt F) v (Rect.unit (s := S8x512) ![r.val, 0] S1x512.size inb).toLoadRect f = arow (v.read (Elt F) f) r := by
  funext x
  rw [View.readAt_apply]
  unfold arow
  refine congrArg (v.read (Elt F) f) (funext fun a => Fin.ext ?_)
  have h0 : (x 0).val < 1 := (x 0).isLt
  fin_cases a
  · show r.val + 1 * (x 0).val = r.val
    omega
  · show 0 + 1 * (x 1).val = (x 1).val
    omega

/-- A store of 256 rows replaces them. -/
theorem read_putRows {κ : Kind} {sp : Space} (v : View sig κ sp S4096x512 .f32) (f : BufTy.Contents (Elt F) v.ty) (b : ℕ) {off : Fin 2 → ℕ}
    (inb : ∀ a, off a + S256x512.size a ≤ S4096x512.size a) (ho : off = ![256 * b, 0]) (P : FVec F S256x512 .f32) :
    v.read (Elt F) (v.writes (Elt F) f [⟨Rect.unit (s := S4096x512) off S256x512.size inb, P⟩]) = putRows b P (v.read (Elt F) f) := by
  funext y
  unfold putRows
  split
  · rename_i h
    refine View.read_writes_cons_rows_of_mem v f inb P [] y _ ho ?_ rfl
    show (y 0).val = 256 * b + ((y 0).val - 256 * b) % 256
    rw [Nat.mod_eq_of_lt (by omega)]; omega
  · rename_i h
    refine (View.read_writes_cons_rows_of_not_mem (W := 256) v f inb P [] y ho rfl ?_).trans rfl
    show (y 0).val < 256 * b ∨ 256 * b + 256 ≤ (y 0).val
    omega

/-- A store through the whole buffer replaces it. -/
theorem read_put_whole {κ : Kind} {sp : Space} {S : Shape} {e : EltTy} (v : View sig κ sp S e) {off : Fin S.rank → ℕ} (inb : ∀ a, off a + S.size a ≤ S.size a)
    (f : BufTy.Contents (Elt F) v.ty) (w : S.Idx → Elt F e) (h : ∀ a, off a = 0) (L : List (View.Piece (Elt F) S e)) :
    v.read (Elt F) (v.writes (Elt F) f (⟨Rect.unit off S.size inb, w⟩ :: L)) = w := by
  funext y
  exact View.read_writes_cons_unit_of_mem v f inb w L y y rfl fun a => by rw [h a, Nat.zero_add]

/-- The two stores of the statistics, read back row by row. -/
theorem read_stats {κ : Kind} {sp : Space} (v : View sig κ sp S8x512 .f32) (f : BufTy.Contents (Elt F) v.ty) (P Q : FVec F S1x512 .f32) :
    arow (v.read (Elt F) (v.writes (Elt F) f [⟨Rect.unit (s := S8x512) ![1, 0] S1x512.size inb_S8x512_S1x512_1_0, Q⟩, ⟨Rect.unit (s := S8x512) ![0, 0] S1x512.size inb_S8x512_S1x512_0_0, P⟩])) 0 = P
    ∧ arow (v.read (Elt F) (v.writes (Elt F) f [⟨Rect.unit (s := S8x512) ![1, 0] S1x512.size inb_S8x512_S1x512_1_0, Q⟩, ⟨Rect.unit (s := S8x512) ![0, 0] S1x512.size inb_S8x512_S1x512_0_0, P⟩])) 1 = Q := by
  refine ⟨funext fun x => ?_, funext fun x => ?_⟩
  · have h0 : (x 0).val < 1 := (x 0).isLt
    unfold arow
    rw [View.read_writes_cons_rows_of_not_mem (W := 1) v f _ _ _ _ rfl rfl (Or.inl (show 0 < 1 from Nat.one_pos))]
    exact View.read_writes_cons_rows_of_mem v f _ _ _ _ x rfl (by show 0 = 0 + (x 0).val; omega) rfl
  · have h0 : (x 0).val < 1 := (x 0).isLt
    unfold arow
    exact View.read_writes_cons_rows_of_mem v f _ _ _ _ x rfl (by show 1 = 1 + (x 0).val; omega) rfl

variable (𝒱 : Variants) (c : Dev nD) (bd : Option 𝒱.V) (i : grid0.Coords)
  (arg2 : Memref sig .tc .vmem S1x256x512 .f32) (harg2 : arg2.IsWhole) (arg3 : Memref sig .tc .vmem S1x256x4096 .f32) (harg3 : arg3.IsWhole)
  (arg4 : Memref sig .tc .vmem S1x512x512 .f32) (harg4 : arg4.IsWhole) (arg5 : Memref sig .tc .vmem S1x8x512 .f32) (harg5 : arg5.IsWhole)
  (arg6 : Memref sig .tc .vmem S256x256 .f32) (harg6 : arg6.IsWhole) (arg7 : Memref sig .tc .vmem S4096x512 .f32) (harg7 : arg7.IsWhole)
  (arg8 : Memref sig .tc .vmem S4096x512 .f32) (harg8 : arg8.IsWhole) (arg9 : Memref sig .tc .vmem S8x512 .f32) (harg9 : arg9.IsWhole)

/-- What the third loop leaves in `t`. -/
theorem pb3_slabs (h2 : k0_cond2 i = 1#1) (h3 : k0_cond3 i = 1#1) (g be : Vec F S1x1x512 .f32)
    (X4 : BufTy.Contents (Elt F) arg4.view.ty) (X7 : BufTy.Contents (Elt F) arg7.view.ty) (G : BufTy.Contents (Elt F) arg8.view.ty) :
    arg8.view.read (Elt F) (arg8.view.writes (Elt F) G (pb_k0_t3 (F := F) 𝒱 c bd i arg2 harg2 arg3 harg3 arg4 harg4 arg5 harg5 arg6 harg6 arg7 harg7 arg8 harg8 arg9 harg9 h2
        (meanV (arg7.view.read (Elt F) X7)) (s4V (arg7.view.read (Elt F) X7)) h3 g be X4 X7 8))
      = slabs (arg7.view.read (Elt F) X7) g be (arg4.view.read (Elt F) X4) := by
  funext y
  have hy : (y 0).val < 4096 := (y 0).isLt
  have := pb3_read 𝒱 c bd i arg2 harg2 arg3 harg3 arg4 harg4 arg5 harg5 arg6 harg6 arg7 harg7 arg8 harg8 arg9 harg9 h2
    (meanV (arg7.view.read (Elt F) X7)) (s4V (arg7.view.read (Elt F) X7)) h3 g be X4 X7 G 8 le_rfl ((y 0).val / 512) (by omega) y
    (ix2 ⟨(y 0).val % 512, Nat.mod_lt _ (by decide)⟩ (y 1)) (by show (y 0).val = 512 * ((y 0).val / 512) + (y 0).val % 512; omega) rfl
  rw [this, readAt_whole arg4.view inb_S1x512x512_S1x512x512_0_0_0 X4 (by decide)]
  rfl

end Cert.KernelIdeal.Body

end
-- ==== Proof.BodySimple.lean ====
/-
  The idealized kernel body at the points without counted loops: the first product, a layer's block, the last normalisation's later blocks.
-/
module

public import proofs.«01_k».proof.Proof.Gen.KernelIdeal.Frame
public import proofs.«01_k».proof.Proof.BodyStates

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a memref's buffer on core `c` holds, held whole behind the memref's view. -/
abbrev held (c : Dev nD) {sp : Space} {S : Shape} {e : EltTy} (M : Memref sig .tc sp S e) (f : BufTy.Contents (Elt F) M.view.ty) : sProp 𝕄 :=
  M.view.loc (c : Thread nD τ) ↦[M.view.set]{fullShare} f

variable (c : Dev nD) (i : grid0.Coords)
  (arg2 : Memref sig .tc .vmem S1x256x512 .f32) (harg2 : arg2.IsWhole) (arg3 : Memref sig .tc .vmem S1x256x4096 .f32) (harg3 : arg3.IsWhole)
  (arg4 : Memref sig .tc .vmem S1x512x512 .f32) (harg4 : arg4.IsWhole) (arg5 : Memref sig .tc .vmem S1x8x512 .f32) (harg5 : arg5.IsWhole)
  (arg6 : Memref sig .tc .vmem S256x256 .f32) (harg6 : arg6.IsWhole) (arg7 : Memref sig .tc .vmem S4096x512 .f32) (harg7 : arg7.IsWhole)
  (arg8 : Memref sig .tc .vmem S4096x512 .f32) (harg8 : arg8.IsWhole) (arg9 : Memref sig .tc .vmem S8x512 .f32) (harg9 : arg9.IsWhole)
  (f2 : BufTy.Contents (Elt F) arg2.view.ty) (f3 : BufTy.Contents (Elt F) arg3.view.ty) (f4 : BufTy.Contents (Elt F) arg4.view.ty)
  (f5 : BufTy.Contents (Elt F) arg5.view.ty) (f6 : BufTy.Contents (Elt F) arg6.view.ty) (f7 : BufTy.Contents (Elt F) arg7.view.ty)
  (f8 : BufTy.Contents (Elt F) arg8.view.ty) (f9 : BufTy.Contents (Elt F) arg9.view.ty)

/-- Phase 0: one block of rows of the input times the first weights goes into `t`. -/
theorem run_first (h1 : k0_cond1 i = 1#1) (h2 : ¬ k0_cond2 i = 1#1) (h4 : ¬ k0_cond4 i = 1#1) (h5 : ¬ k0_cond5 i = 1#1) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜arg7.view.read (Elt F) g7 = arg7.view.read (Elt F) f7 ∧ arg8.view.read (Elt F) g8 = putRows (i 1).val (k0_pay1 (arg2.view.read (Elt F) f2) (arg4.view.read (Elt F) f4)) (arg8.view.read (Elt F) f8)⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) i arg2 harg2 arg3 harg3 arg4 harg4 arg5 harg5 arg6 harg6 arg7 harg7 arg8 harg8 arg9 harg9) K := by
  rw [cc0__gcn_body_eq_skeleton]; unfold cc0__gcn_body_skel
  iintro ⟨H2, H3, H4, H5, H6, H7, H8, H9, HK⟩
  sl_exec
  sl_step
  iapply HK
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    refine ⟨rfl, ?_⟩
    rw [← readAt_whole arg2.view inb_S1x256x512_S1x256x512_0_0_0 f2 (by decide), ← readAt_whole arg4.view inb_S1x512x512_S1x512x512_0_0_0 f4 (by decide)]
    exact read_putRows arg8.view f8 (i 1).val (k0_off1_inb i h1) (k0_off1_eq i) _

/-- A layer's block: the adjacency block times `t`, with the bias and the relu, goes into `h` and its first 256 columns to the output. -/
theorem run_layer (h1 : ¬ k0_cond1 i = 1#1) (h2 : ¬ k0_cond2 i = 1#1) (h4 : k0_cond4 i = 1#1) (h5 : ¬ k0_cond5 i = 1#1) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜arg7.view.read (Elt F) g7 = putRows (i 1).val (k0_pay7 (arg3.view.read (Elt F) f3) (arg8.view.read (Elt F) f8) (prow (arg5.view.read (Elt F) f5) 0)) (arg7.view.read (Elt F) f7) ∧ arg8.view.read (Elt F) g8 = arg8.view.read (Elt F) f8⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) i arg2 harg2 arg3 harg3 arg4 harg4 arg5 harg5 arg6 harg6 arg7 harg7 arg8 harg8 arg9 harg9) K := by
  rw [cc0__gcn_body_eq_skeleton]; unfold cc0__gcn_body_skel
  iintro ⟨H2, H3, H4, H5, H6, H7, H8, H9, HK⟩
  sl_exec
  sl_step
  iapply HK
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    refine ⟨?_, rfl⟩
    rw [← readAt_whole arg3.view inb_S1x256x4096_S1x256x4096_0_0_0 f3 (by decide), ← readAt_whole arg8.view inb_S4096x512_S4096x512_0_0 f8 (by decide),
      ← readAt_prow arg5.view 0 inb_S1x8x512_S1x1x512_0_0_0 f5]
    exact read_putRows arg7.view f7 (i 1).val (k0_off5_inb i h4) (k0_off5_eq i) _

/-- The last normalisation of one block: the output gets it, off the statistics kept. -/
theorem run_last (h1 : ¬ k0_cond1 i = 1#1) (h2 : ¬ k0_cond2 i = 1#1) (h4 : ¬ k0_cond4 i = 1#1) (h5 : k0_cond5 i = 1#1) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜arg6.view.read (Elt F) g6 = k0_pay9 (rows (arg7.view.read (Elt F) f7) (i 1).val) (prow (arg5.view.read (Elt F) f5) 1) (prow (arg5.view.read (Elt F) f5) 2) (arow (arg9.view.read (Elt F) f9) 0) (arow (arg9.view.read (Elt F) f9) 1) ∧ arg7.view.read (Elt F) g7 = arg7.view.read (Elt F) f7 ∧ arg9.view.read (Elt F) g9 = arg9.view.read (Elt F) f9⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) i arg2 harg2 arg3 harg3 arg4 harg4 arg5 harg5 arg6 harg6 arg7 harg7 arg8 harg8 arg9 harg9) K := by
  rw [cc0__gcn_body_eq_skeleton]; unfold cc0__gcn_body_skel
  iintro ⟨H2, H3, H4, H5, H6, H7, H8, H9, HK⟩
  sl_exec
  sl_step
  iapply HK
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    refine ⟨?_, rfl, rfl⟩
    rw [← readAt_rows arg7 f7 (i 1).val (i 1).isLt (k0_off6_inb i h5) (k0_off6_eq i), ← readAt_prow arg5.view 1 inb_S1x8x512_S1x1x512_0_1_0 f5,
      ← readAt_prow arg5.view 2 inb_S1x8x512_S1x1x512_0_2_0 f5, ← readAt_arow arg9.view 0 inb_S8x512_S1x512_0_0 f9, ← readAt_arow arg9.view 1 inb_S8x512_S1x512_1_0 f9]
    exact read_put_whole arg6.view inb_S256x256_S256x256_0_0 f6 _ (by decide) []

end Cert.KernelIdeal.Body

end
-- ==== Proof.BodyNorm.lean ====
/-
  The idealized kernel body at a normalising layer's first block.
-/
module

public import proofs.«01_k».proof.Proof.Gen.KernelIdeal.Frame
public import proofs.«01_k».proof.Proof.BodySimple

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x256x512 .f32) (harg2 : arg2.IsWhole) (arg3 : Memref sig .tc .vmem S1x256x4096 .f32) (harg3 : arg3.IsWhole)
  (arg4 : Memref sig .tc .vmem S1x512x512 .f32) (harg4 : arg4.IsWhole) (arg5 : Memref sig .tc .vmem S1x8x512 .f32) (harg5 : arg5.IsWhole)
  (arg6 : Memref sig .tc .vmem S256x256 .f32) (harg6 : arg6.IsWhole) (arg7 : Memref sig .tc .vmem S4096x512 .f32) (harg7 : arg7.IsWhole)
  (arg8 : Memref sig .tc .vmem S4096x512 .f32) (harg8 : arg8.IsWhole) (arg9 : Memref sig .tc .vmem S8x512 .f32) (harg9 : arg9.IsWhole)
  (f2 : BufTy.Contents (Elt F) arg2.view.ty) (f3 : BufTy.Contents (Elt F) arg3.view.ty) (f4 : BufTy.Contents (Elt F) arg4.view.ty)
  (f5 : BufTy.Contents (Elt F) arg5.view.ty) (f6 : BufTy.Contents (Elt F) arg6.view.ty) (f7 : BufTy.Contents (Elt F) arg7.view.ty)
  (f8 : BufTy.Contents (Elt F) arg8.view.ty) (f9 : BufTy.Contents (Elt F) arg9.view.ty)

/-- A layer's first block: the previous layer normalised and multiplied by the weights refills `t`, then the block goes as at the others. -/
theorem run_norm (h1 : ¬ k0_cond1 i = 1#1) (h2 : k0_cond2 i = 1#1) (h3 : k0_cond3 i = 1#1) (h4 : k0_cond4 i = 1#1) (h5 : ¬ k0_cond5 i = 1#1) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜arg8.view.read (Elt F) g8 = slabs (arg7.view.read (Elt F) f7) (prow (arg5.view.read (Elt F) f5) 1) (prow (arg5.view.read (Elt F) f5) 2) (arg4.view.read (Elt F) f4) ∧ arg7.view.read (Elt F) g7 = putRows (i 1).val (k0_pay7 (arg3.view.read (Elt F) f3) (slabs (arg7.view.read (Elt F) f7) (prow (arg5.view.read (Elt F) f5) 1) (prow (arg5.view.read (Elt F) f5) 2) (arg4.view.read (Elt F) f4)) (prow (arg5.view.read (Elt F) f5) 0)) (arg7.view.read (Elt F) f7)⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) i arg2 harg2 arg3 harg3 arg4 harg4 arg5 harg5 arg6 harg6 arg7 harg7 arg8 harg8 arg9 harg9) K := by
  rw [cc0__gcn_body_eq_skeleton]; unfold cc0__gcn_body_skel
  iintro ⟨H2, H3, H4, H5, H6, H7, H8, H9, HK⟩
  sl_exec
  sl_step
  iapply HK
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    unfold run_norm.sl.v18
    unfold run_norm.sl.r run_norm.sl.r_1
    rw [show Scf.trips k0_t1_loop.lb k0_t1_loop.ub k0_t1_loop.st = 16 from trips1,
      show Scf.trips k0_t3_loop.lb k0_t3_loop.ub k0_t3_loop.st = 8 from trips3, st1_eq _ _ _ _ _ _ _ _ _ _ _ _ _ _ _ _ _ _ _ _ _ _ _ le_rfl,
      st2_eq _ _ _ _ _ _ _ _ _ _ _ _ _ _ _ _ _ _ _ _ _ _ _ _ le_rfl,
      readAt_whole arg3.view inb_S1x256x4096_S1x256x4096_0_0_0 f3 (by decide), readAt_whole arg8.view inb_S4096x512_S4096x512_0_0 _ (by decide),
      show View.readAt (Elt F) arg5.view (Rect.unit (s := S1x8x512) ![0, 0, 0] S1x1x512.size inb_S1x8x512_S1x1x512_0_0_0).toLoadRect f5 = _ from readAt_prow arg5.view 0 inb_S1x8x512_S1x1x512_0_0_0 f5,
      show View.readAt (Elt F) arg5.view (Rect.unit (s := S1x8x512) ![0, 1, 0] S1x1x512.size inb_S1x8x512_S1x1x512_0_1_0).toLoadRect f5 = _ from readAt_prow arg5.view 1 inb_S1x8x512_S1x1x512_0_1_0 f5,
      show View.readAt (Elt F) arg5.view (Rect.unit (s := S1x8x512) ![0, 2, 0] S1x1x512.size inb_S1x8x512_S1x1x512_0_2_0).toLoadRect f5 = _ from readAt_prow arg5.view 2 inb_S1x8x512_S1x1x512_0_2_0 f5]
    have hs := pb3_slabs Variants.none c none i arg2 harg2 arg3 harg3 arg4 harg4 arg5 harg5 arg6 harg6 arg7 harg7 arg8 harg8 arg9 harg9 h2 h3
      (prow (arg5.view.read (Elt F) f5) 1) (prow (arg5.view.read (Elt F) f5) 2) f4 f7 f8
    unfold meanV s4V at hs
    rw [hs]
    exact ⟨rfl, read_putRows arg7.view f7 (i 1).val (k0_off5_inb i h4) (k0_off5_eq i) _⟩

end Cert.KernelIdeal.Body

end
-- ==== Proof.BodyStats.lean ====
/-
  The idealized kernel body at the last normalisation's first block.
-/
module

public import proofs.«01_k».proof.Proof.Gen.KernelIdeal.Frame
public import proofs.«01_k».proof.Proof.BodySimple

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x256x512 .f32) (harg2 : arg2.IsWhole) (arg3 : Memref sig .tc .vmem S1x256x4096 .f32) (harg3 : arg3.IsWhole)
  (arg4 : Memref sig .tc .vmem S1x512x512 .f32) (harg4 : arg4.IsWhole) (arg5 : Memref sig .tc .vmem S1x8x512 .f32) (harg5 : arg5.IsWhole)
  (arg6 : Memref sig .tc .vmem S256x256 .f32) (harg6 : arg6.IsWhole) (arg7 : Memref sig .tc .vmem S4096x512 .f32) (harg7 : arg7.IsWhole)
  (arg8 : Memref sig .tc .vmem S4096x512 .f32) (harg8 : arg8.IsWhole) (arg9 : Memref sig .tc .vmem S8x512 .f32) (harg9 : arg9.IsWhole)
  (f2 : BufTy.Contents (Elt F) arg2.view.ty) (f3 : BufTy.Contents (Elt F) arg3.view.ty) (f4 : BufTy.Contents (Elt F) arg4.view.ty)
  (f5 : BufTy.Contents (Elt F) arg5.view.ty) (f6 : BufTy.Contents (Elt F) arg6.view.ty) (f7 : BufTy.Contents (Elt F) arg7.view.ty)
  (f8 : BufTy.Contents (Elt F) arg8.view.ty) (f9 : BufTy.Contents (Elt F) arg9.view.ty)

/-- The last normalisation's first block: the statistics are computed and kept, and the output gets its block. -/
theorem run_stats (h1 : ¬ k0_cond1 i = 1#1) (h2 : k0_cond2 i = 1#1) (h3 : ¬ k0_cond3 i = 1#1) (h4 : ¬ k0_cond4 i = 1#1) (h5 : k0_cond5 i = 1#1) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜arg6.view.read (Elt F) g6 = k0_pay9 (rows (arg7.view.read (Elt F) f7) (i 1).val) (prow (arg5.view.read (Elt F) f5) 1) (prow (arg5.view.read (Elt F) f5) 2) (k0_pay3 (meanV (arg7.view.read (Elt F) f7))) (k0_pay4 (s4V (arg7.view.read (Elt F) f7))) ∧ arg7.view.read (Elt F) g7 = arg7.view.read (Elt F) f7 ∧ arow (arg9.view.read (Elt F) g9) 0 = k0_pay3 (meanV (arg7.view.read (Elt F) f7)) ∧ arow (arg9.view.read (Elt F) g9) 1 = k0_pay4 (s4V (arg7.view.read (Elt F) f7))⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) i arg2 harg2 arg3 harg3 arg4 harg4 arg5 harg5 arg6 harg6 arg7 harg7 arg8 harg8 arg9 harg9) K := by
  rw [cc0__gcn_body_eq_skeleton]; unfold cc0__gcn_body_skel
  iintro ⟨H2, H3, H4, H5, H6, H7, H8, H9, HK⟩
  sl_exec
  sl_step
  iapply HK
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · ipureintro
    unfold run_stats.sl.v23 run_stats.sl.v28 run_stats.sl.H9_2
    unfold run_stats.sl.r run_stats.sl.r_1
    rw [show Scf.trips k0_t1_loop.lb k0_t1_loop.ub k0_t1_loop.st = 16 from trips1,
      st1_eq _ _ _ _ _ _ _ _ _ _ _ _ _ _ _ _ _ _ _ _ _ _ _ le_rfl,
      st2_eq _ _ _ _ _ _ _ _ _ _ _ _ _ _ _ _ _ _ _ _ _ _ _ _ le_rfl]
    refine ⟨?_, rfl, (read_stats arg9.view f9 _ _).1, (read_stats arg9.view f9 _ _).2⟩
    rw [read_put_whole arg6.view inb_S256x256_S256x256_0_0 f6 _ (by decide) [], readAt_rows arg7 f7 (i 1).val (i 1).isLt (k0_off6_inb i h5) (k0_off6_eq i)]
    refine congr (congr (congr (congr rfl (readAt_prow arg5.view 1 inb_S1x8x512_S1x1x512_0_1_0 f5)) (readAt_prow arg5.view 2 inb_S1x8x512_S1x1x512_0_2_0 f5)) ?_) ?_
    · exact (readAt_arow arg9.view 0 inb_S8x512_S1x512_0_0 _).trans (read_stats arg9.view _ _ _).1
    · exact (readAt_arow arg9.view 1 inb_S8x512_S1x512_1_0 _).trans (read_stats arg9.view _ _ _).2

end Cert.KernelIdeal.Body

end
-- ==== Proof.Blocks.lean ====
/-
  What the idealized kernel computes phase by phase, as functions of its four input arrays, and how each point of the grid
  takes what the scratch holds one block further towards it.
-/
module

public import proofs.«01_k».proof.Proof.BodyStates
public import proofs.«01_k».proof.Proof.Gen.KernelIdeal.Frame

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-- Block `b` of 256 rows of the input. -/
def xblk (X : Vec F S1x4096x512 .f32) (b : ℕ) : Vec F S1x256x512 .f32 :=
  fun x => X (ix3 0 ⟨(256 * b + (x 1).val) % 4096, Nat.mod_lt _ (by decide)⟩ (x 2))

/-- Block `b` of 256 rows of the adjacency. -/
def ablk (A : Vec F S1x4096x4096 .f32) (b : ℕ) : Vec F S1x256x4096 .f32 :=
  fun x => A (ix3 0 ⟨(256 * b + (x 1).val) % 4096, Nat.mod_lt _ (by decide)⟩ (x 2))

/-- Phase `p`'s weights. -/
def wblk (W : Vec F S5x512x512 .f32) (p : ℕ) : Vec F S1x512x512 .f32 :=
  fun x => W (ix3 ⟨p % 5, Nat.mod_lt _ (by decide)⟩ (x 1) (x 2))

/-- Phase `p`'s parameters. -/
def pblk (P : Vec F S5x8x512 .f32) (p : ℕ) : Vec F S1x8x512 .f32 :=
  fun x => P (ix3 ⟨p % 5, Nat.mod_lt _ (by decide)⟩ (x 1) (x 2))

/-- Sixteen blocks of 256 rows as one array. -/
def blocks (B : ℕ → FVec F S256x512 .f32) : Vec F S4096x512 .f32 :=
  fun y => B ((y 0).val / 256) (ix2 ⟨(y 0).val % 256, Nat.mod_lt _ (by decide)⟩ (y 1))

/-- `T` agrees with `G` on the first `n` blocks. -/
def Upto (n : ℕ) (T G : Vec F S4096x512 .f32) : Prop := ∀ y : S4096x512.Idx, (y 0).val < 256 * n → T y = G y

/-- No row need agree before the first block. -/
theorem upto_zero (T G : Vec F S4096x512 .f32) : Upto 0 T G := fun y h => by omega

/-- After all sixteen blocks the two buffers are equal. -/
theorem upto_full {T G : Vec F S4096x512 .f32} (h : Upto 16 T G) : T = G :=
  funext fun y => h y (by have : (y 0).val < 4096 := (y 0).isLt; omega)

/-- Replacing block `b` by its value takes the agreement one block further. -/
theorem upto_put {b : ℕ} {T : Vec F S4096x512 .f32} {B : ℕ → FVec F S256x512 .f32} (h : Upto b T (blocks B)) :
    Upto (b + 1) (putRows b (B b) T) (blocks B) := fun y hy => by
  unfold putRows
  split
  · rename_i hb
    unfold blocks
    have e : (y 0).val / 256 = b := by omega
    have e' : ((y 0).val - 256 * b) % 256 = (y 0).val % 256 := by omega
    rw [e]
    exact congrArg (B b) (congrArg (fun k => ix2 k (y 1)) (Fin.ext e'))
  · exact h y (by omega)

variable (X : Vec F S1x4096x512 .f32) (A : Vec F S1x4096x4096 .f32) (W : Vec F S5x512x512 .f32) (P : Vec F S5x8x512 .f32)

/-- A layer's block off the array `T` it multiplies: layer `l` runs in phase `l + 1`. -/
def hblk (T : Vec F S4096x512 .f32) (l : ℕ) (b : ℕ) : FVec F S256x512 .f32 := k0_pay7 (ablk A b) T (prow (pblk P (l + 1)) 0)

/-- What `t` holds while layer `l` runs. -/
def tt : ℕ → Vec F S4096x512 .f32
  | 0 => blocks fun b => k0_pay1 (xblk X b) (wblk W 0)
  | l + 1 => slabs (blocks (hblk A P (tt l) l)) (prow (pblk P (l + 2)) 1) (prow (pblk P (l + 2)) 2) (wblk W (l + 2))

/-- What `h` holds after layer `l`. -/
def hh (l : ℕ) : Vec F S4096x512 .f32 := blocks (hblk A P (tt X A W P l) l)

/-- The result's block `b`. -/
def outB (b : ℕ) : FVec F S256x256 .f32 :=
  k0_pay9 (rows (hh X A W P 2) b) (prow (pblk P 4) 1) (prow (pblk P 4) 2) (k0_pay3 (meanV (hh X A W P 2))) (k0_pay4 (s4V (hh X A W P 2)))

/-- What the scratch holds before point `n`: `h`, `t` and the statistics. -/
def Inv (n : ℕ) (h t : Vec F S4096x512 .f32) (acc : Vec F S8x512 .f32) : Prop :=
  (n ≤ 16 → Upto n t (tt X A W P 0))
  ∧ (16 ≤ n → n < 32 → t = tt X A W P 0) ∧ (16 ≤ n → n ≤ 32 → Upto (n - 16) h (hh X A W P 0))
  ∧ (32 < n → n < 48 → t = tt X A W P 1) ∧ (32 < n → n ≤ 48 → Upto (n - 32) h (hh X A W P 1))
  ∧ (48 < n → n < 64 → t = tt X A W P 2) ∧ (48 < n → n ≤ 64 → Upto (n - 48) h (hh X A W P 2))
  ∧ (64 ≤ n → h = hh X A W P 2)
  ∧ (64 < n → arow acc 0 = k0_pay3 (meanV (hh X A W P 2)) ∧ arow acc 1 = k0_pay4 (s4V (hh X A W P 2)))

variable {X A W P}

/-- Before the first step nothing is asked of the buffers. -/
theorem inv_zero (h t : Vec F S4096x512 .f32) (acc : Vec F S8x512 .f32) : Inv X A W P 0 h t acc := by
  refine ⟨fun _ => upto_zero _ _, ?_, ?_, ?_, ?_, ?_, ?_, ?_, ?_⟩ <;> intro h <;> omega

variable {n : ℕ} {h t h' t' : Vec F S4096x512 .f32} {acc acc' : Vec F S8x512 .f32}

/-- Phase 0. -/
theorem inv_first (hn : n < 16) (hi : Inv X A W P n h t acc) (e : t' = putRows n (k0_pay1 (xblk X n) (wblk W 0)) t) :
    Inv X A W P (n + 1) h' t' acc' := by
  subst e
  have u : Upto (n + 1) (putRows n (k0_pay1 (xblk X n) (wblk W 0)) t) (tt X A W P 0) :=
    upto_put (B := fun b => k0_pay1 (xblk X b) (wblk W 0)) (hi.1 (by omega))
  refine ⟨fun _ => u, fun h1 _ => ?_, fun h1 _ => ?_, ?_, ?_, ?_, ?_, ?_, ?_⟩
  · have : n + 1 = 16 := by omega
    rw [this] at u
    exact upto_full u
  · have : n + 1 - 16 = 0 := by omega
    rw [this]; exact upto_zero _ _
  all_goals intro hx; omega

/-- Layer 0. -/
theorem inv_layer0 (h1 : 16 ≤ n) (h2 : n < 32) (hi : Inv X A W P n h t acc)
    (e : h' = putRows (n - 16) (k0_pay7 (ablk A (n - 16)) t (prow (pblk P 1) 0)) h) (et : t' = t) :
    Inv X A W P (n + 1) h' t' acc' := by
  have ht := hi.2.1 h1 h2
  subst e et
  have u : Upto (n - 16 + 1) (putRows (n - 16) (k0_pay7 (ablk A (n - 16)) t' (prow (pblk P 1) 0)) h) (hh X A W P 0) := by
    rw [ht]; exact upto_put (B := hblk A P (tt X A W P 0) 0) (hi.2.2.1 h1 (by omega))
  refine ⟨?_, fun _ _ => ht, fun _ _ => ?_, ?_, ?_, ?_, ?_, ?_, ?_⟩
  rotate_left
  · rw [show n + 1 - 16 = n - 16 + 1 by omega]; exact u
  all_goals intro hx; omega

/-- Layer 1's first block. -/
theorem inv_norm1 (hi : Inv X A W P 32 h t acc) (et : t' = slabs h (prow (pblk P 2) 1) (prow (pblk P 2) 2) (wblk W 2))
    (e : h' = putRows 0 (k0_pay7 (ablk A 0) t' (prow (pblk P 2) 0)) h) : Inv X A W P 33 h' t' acc' := by
  have hh0 : h = hh X A W P 0 := upto_full (hi.2.2.1 (by omega) (by omega))
  have ht : t' = tt X A W P 1 := by rw [et, hh0]; rfl
  refine ⟨?_, ?_, ?_, fun _ _ => ht, fun _ _ => ?_, ?_, ?_, ?_, ?_⟩
  rotate_left 3
  · rw [e, ht]; exact upto_put (B := hblk A P (tt X A W P 1) 1) (upto_zero _ _)
  all_goals intro hx; omega

/-- Layer 1's later blocks. -/
theorem inv_layer1 (h1 : 32 < n) (h2 : n < 48) (hi : Inv X A W P n h t acc)
    (e : h' = putRows (n - 32) (k0_pay7 (ablk A (n - 32)) t (prow (pblk P 2) 0)) h) (et : t' = t) :
    Inv X A W P (n + 1) h' t' acc' := by
  have ht := hi.2.2.2.1 h1 h2
  subst e et
  have u : Upto (n - 32 + 1) (putRows (n - 32) (k0_pay7 (ablk A (n - 32)) t' (prow (pblk P 2) 0)) h) (hh X A W P 1) := by
    rw [ht]; exact upto_put (B := hblk A P (tt X A W P 1) 1) (hi.2.2.2.2.1 h1 (by omega))
  refine ⟨?_, ?_, ?_, fun _ _ => ht, fun _ _ => ?_, ?_, ?_, ?_, ?_⟩
  rotate_left 3
  · rw [show n + 1 - 32 = n - 32 + 1 by omega]; exact u
  all_goals intro hx; omega

/-- Layer 2's first block. -/
theorem inv_norm2 (hi : Inv X A W P 48 h t acc) (et : t' = slabs h (prow (pblk P 3) 1) (prow (pblk P 3) 2) (wblk W 3))
    (e : h' = putRows 0 (k0_pay7 (ablk A 0) t' (prow (pblk P 3) 0)) h) : Inv X A W P 49 h' t' acc' := by
  have hh1 : h = hh X A W P 1 := upto_full (hi.2.2.2.2.1 (by omega) (by omega))
  have ht : t' = tt X A W P 2 := by rw [et, hh1]; rfl
  refine ⟨?_, ?_, ?_, ?_, ?_, fun _ _ => ht, fun _ _ => ?_, ?_, ?_⟩
  rotate_left 5
  · rw [e, ht]; exact upto_put (B := hblk A P (tt X A W P 2) 2) (upto_zero _ _)
  all_goals intro hx; omega

/-- Layer 2's later blocks. -/
theorem inv_layer2 (h1 : 48 < n) (h2 : n < 64) (hi : Inv X A W P n h t acc)
    (e : h' = putRows (n - 48) (k0_pay7 (ablk A (n - 48)) t (prow (pblk P 3) 0)) h) (et : t' = t) :
    Inv X A W P (n + 1) h' t' acc' := by
  have ht := hi.2.2.2.2.2.1 h1 h2
  subst e et
  have u : Upto (n - 48 + 1) (putRows (n - 48) (k0_pay7 (ablk A (n - 48)) t' (prow (pblk P 3) 0)) h) (hh X A W P 2) := by
    rw [ht]; exact upto_put (B := hblk A P (tt X A W P 2) 2) (hi.2.2.2.2.2.2.1 h1 (by omega))
  refine ⟨?_, ?_, ?_, ?_, ?_, fun _ _ => ht, fun _ _ => ?_, fun h3 => ?_, ?_⟩
  rotate_left 5
  · rw [show n + 1 - 48 = n - 48 + 1 by omega]; exact u
  · rw [show n - 48 + 1 = 16 by omega] at u; exact upto_full u
  all_goals intro hx; omega

/-- The last normalisation. -/
theorem inv_last (h1 : 64 ≤ n) (e : h' = hh X A W P 2)
    (ea : arow acc' 0 = k0_pay3 (meanV (hh X A W P 2)) ∧ arow acc' 1 = k0_pay4 (s4V (hh X A W P 2))) :
    Inv X A W P (n + 1) h' t' acc' := by
  refine ⟨?_, ?_, ?_, ?_, ?_, ?_, ?_, fun _ => e, fun _ => ea⟩ <;> intro hx <;> omega

/-! ### The windows' blocks, read off the arrays -/

/-- The grid's coordinates at a point. -/
theorem coords_eq : ∀ t : Fin grid0.N, (grid0.coords t 0).val = t.val / 16 ∧ (grid0.coords t 1).val = t.val % 16 := by decide +kernel

variable (m : (ℓ : Loc nD τ sig) → Buf (Elt F) ℓ)

/-- The input as the region finds it. -/
def arrX (c : Dev nD) : Vec F S1x4096x512 .f32 := V m c main_arg0
/-- The adjacency as the region finds it. -/
def arrA (c : Dev nD) : Vec F S1x4096x4096 .f32 := V m c main_arg1
/-- The stacked weights as the region finds them. -/
def arrW (c : Dev nD) : Vec F S5x512x512 .f32 := V m c main_v7
/-- The stacked parameters as the region finds them. -/
def arrP (c : Dev nD) : Vec F S5x8x512 .f32 := V m c main_v62

/-- In phase zero the features' window is at the step's block of rows. -/
theorem index0 : ∀ t : Fin grid0.N, t.val < 16 → win0_0.index t 0 = 0 ∧ win0_0.index t 1 = t.val ∧ win0_0.index t 2 = 0 := by decide +kernel
/-- In phases one to three the adjacency window is at the step's block of rows. -/
theorem index1 : ∀ t : Fin grid0.N, 16 ≤ t.val → t.val < 64 → win0_1.index t 0 = 0 ∧ win0_1.index t 1 = t.val % 16 ∧ win0_1.index t 2 = 0 := by decide +kernel
/-- The weights' window is at the phase. -/
theorem index2 : ∀ t : Fin grid0.N, win0_2.index t 0 = t.val / 16 ∧ win0_2.index t 1 = 0 ∧ win0_2.index t 2 = 0 := by decide +kernel
/-- The parameters' window is at the phase. -/
theorem index3 : ∀ t : Fin grid0.N, win0_3.index t 0 = t.val / 16 ∧ win0_3.index t 1 = 0 ∧ win0_3.index t 2 = 0 := by decide +kernel
/-- The result's window is at the block of rows. -/
theorem index4 : ∀ t : Fin grid0.N, win0_4.index t 0 = t.val % 16 ∧ win0_4.index t 1 = 0 := by decide +kernel

/-- The block of features that a step of phase zero reads. -/
theorem iblk_x (c : Dev nD) (t : Fin cfg0.N) (ht : t.val < 16) : (iblk m c 0 t : Vec F S1x256x512 .f32) = xblk (arrX m c) t.val := by
  have hi := index0 t ht
  funext j
  unfold iblk xblk
  rw [View.read_apply]
  show V m c main_arg0 _ = arrX m c _
  unfold arrX
  refine congrArg (V m c main_arg0) (funext fun a => Fin.ext ?_)
  have h0 : (j 0).val < 1 := (j 0).isLt
  have h1 : (j 1).val < 256 := (j 1).isLt
  match a with
  | ⟨0, _⟩ => show win0_0.index t 0 * 1 + 1 * (j 0).val = 0; rw [hi.1]; omega
  | ⟨1, _⟩ => show win0_0.index t 1 * 256 + 1 * (j 1).val = (256 * t.val + (j 1).val) % 4096; rw [hi.2.1]; omega
  | ⟨2, _⟩ => show win0_0.index t 2 * 512 + 1 * (j 2).val = (j 2).val; rw [hi.2.2]; omega

/-- The block of the adjacency matrix that a step of phases one to three reads. -/
theorem iblk_a (c : Dev nD) (t : Fin cfg0.N) (ht : 16 ≤ t.val) (ht' : t.val < 64) : (iblk m c 1 t : Vec F S1x256x4096 .f32) = ablk (arrA m c) (t.val % 16) := by
  have hi := index1 t ht ht'
  funext j
  unfold iblk ablk
  rw [View.read_apply]
  show V m c main_arg1 _ = arrA m c _
  unfold arrA
  refine congrArg (V m c main_arg1) (funext fun a => Fin.ext ?_)
  have h0 : (j 0).val < 1 := (j 0).isLt
  have h1 : (j 1).val < 256 := (j 1).isLt
  match a with
  | ⟨0, _⟩ => show win0_1.index t 0 * 1 + 1 * (j 0).val = 0; rw [hi.1]; omega
  | ⟨1, _⟩ => show win0_1.index t 1 * 256 + 1 * (j 1).val = (256 * (t.val % 16) + (j 1).val) % 4096; rw [hi.2.1]; omega
  | ⟨2, _⟩ => show win0_1.index t 2 * 4096 + 1 * (j 2).val = (j 2).val; rw [hi.2.2]; omega

/-- The weights that a step reads are its phase's. -/
theorem iblk_w (c : Dev nD) (t : Fin cfg0.N) : (iblk m c 2 t : Vec F S1x512x512 .f32) = wblk (arrW m c) (t.val / 16) := by
  have hi := index2 t
  have hN : t.val < 80 := lt_of_lt_of_eq t.isLt N_0
  funext j
  unfold iblk wblk
  rw [View.read_apply]
  show V m c main_v7 _ = arrW m c _
  unfold arrW
  refine congrArg (V m c main_v7) (funext fun a => Fin.ext ?_)
  have h0 : (j 0).val < 1 := (j 0).isLt
  match a with
  | ⟨0, _⟩ => show win0_2.index t 0 * 1 + 1 * (j 0).val = t.val / 16 % 5; rw [hi.1]; omega
  | ⟨1, _⟩ => show win0_2.index t 1 * 512 + 1 * (j 1).val = (j 1).val; rw [hi.2.1]; omega
  | ⟨2, _⟩ => show win0_2.index t 2 * 512 + 1 * (j 2).val = (j 2).val; rw [hi.2.2]; omega

/-- The parameters that a step reads are its phase's. -/
theorem iblk_p (c : Dev nD) (t : Fin cfg0.N) : (iblk m c 3 t : Vec F S1x8x512 .f32) = pblk (arrP m c) (t.val / 16) := by
  have hi := index3 t
  have hN : t.val < 80 := lt_of_lt_of_eq t.isLt N_0
  funext j
  unfold iblk pblk
  rw [View.read_apply]
  show V m c main_v62 _ = arrP m c _
  unfold arrP
  refine congrArg (V m c main_v62) (funext fun a => Fin.ext ?_)
  have h0 : (j 0).val < 1 := (j 0).isLt
  match a with
  | ⟨0, _⟩ => show win0_3.index t 0 * 1 + 1 * (j 0).val = t.val / 16 % 5; rw [hi.1]; omega
  | ⟨1, _⟩ => show win0_3.index t 1 * 8 + 1 * (j 1).val = (j 1).val; rw [hi.2.1]; omega
  | ⟨2, _⟩ => show win0_3.index t 2 * 512 + 1 * (j 2).val = (j 2).val; rw [hi.2.2]; omega

end Cert.KernelIdeal.Body

end
-- ==== Proof.BodyPoint.lean ====
/-
  The idealized kernel body at any point of the grid: it takes what the scratch holds one point further.
-/
module

public import proofs.«01_k».proof.Proof.Gen.KernelIdeal.Frame
public import proofs.«01_k».proof.Proof.BodyNorm
public import proofs.«01_k».proof.Proof.BodyStats
public import proofs.«01_k».proof.Proof.Blocks

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ### Which case a point is -/

/-- The branches taken in phase zero. -/
theorem conds_first : ∀ t : Fin grid0.N, t.val < 16 → k0_cond1 (grid0.coords t) = 1#1 ∧ ¬ k0_cond2 (grid0.coords t) = 1#1 ∧ ¬ k0_cond4 (grid0.coords t) = 1#1 ∧ ¬ k0_cond5 (grid0.coords t) = 1#1 := by decide +kernel
/-- The branches taken in a layer's step that does not start a phase after the first layer's. -/
theorem conds_layer : ∀ t : Fin grid0.N, 16 ≤ t.val → t.val < 64 → t.val ≠ 32 → t.val ≠ 48 → ¬ k0_cond1 (grid0.coords t) = 1#1 ∧ ¬ k0_cond2 (grid0.coords t) = 1#1 ∧ k0_cond4 (grid0.coords t) = 1#1 ∧ ¬ k0_cond5 (grid0.coords t) = 1#1 := by decide +kernel
/-- The branches taken at the start of the second and of the third layer. -/
theorem conds_norm : ∀ t : Fin grid0.N, t.val = 32 ∨ t.val = 48 → ¬ k0_cond1 (grid0.coords t) = 1#1 ∧ k0_cond2 (grid0.coords t) = 1#1 ∧ k0_cond3 (grid0.coords t) = 1#1 ∧ k0_cond4 (grid0.coords t) = 1#1 ∧ ¬ k0_cond5 (grid0.coords t) = 1#1 := by decide +kernel
/-- The branches taken at the start of the last phase. -/
theorem conds_stats : ∀ t : Fin grid0.N, t.val = 64 → ¬ k0_cond1 (grid0.coords t) = 1#1 ∧ k0_cond2 (grid0.coords t) = 1#1 ∧ ¬ k0_cond3 (grid0.coords t) = 1#1 ∧ ¬ k0_cond4 (grid0.coords t) = 1#1 ∧ k0_cond5 (grid0.coords t) = 1#1 := by decide +kernel
/-- The branches taken in the rest of the last phase. -/
theorem conds_last : ∀ t : Fin grid0.N, 64 < t.val → ¬ k0_cond1 (grid0.coords t) = 1#1 ∧ ¬ k0_cond2 (grid0.coords t) = 1#1 ∧ ¬ k0_cond4 (grid0.coords t) = 1#1 ∧ k0_cond5 (grid0.coords t) = 1#1 := by decide +kernel

variable (c : Dev nD) (t : Fin grid0.N)
  (arg2 : Memref sig .tc .vmem S1x256x512 .f32) (harg2 : arg2.IsWhole) (arg3 : Memref sig .tc .vmem S1x256x4096 .f32) (harg3 : arg3.IsWhole)
  (arg4 : Memref sig .tc .vmem S1x512x512 .f32) (harg4 : arg4.IsWhole) (arg5 : Memref sig .tc .vmem S1x8x512 .f32) (harg5 : arg5.IsWhole)
  (arg6 : Memref sig .tc .vmem S256x256 .f32) (harg6 : arg6.IsWhole) (arg7 : Memref sig .tc .vmem S4096x512 .f32) (harg7 : arg7.IsWhole)
  (arg8 : Memref sig .tc .vmem S4096x512 .f32) (harg8 : arg8.IsWhole) (arg9 : Memref sig .tc .vmem S8x512 .f32) (harg9 : arg9.IsWhole)
  (f2 : BufTy.Contents (Elt F) arg2.view.ty) (f3 : BufTy.Contents (Elt F) arg3.view.ty) (f4 : BufTy.Contents (Elt F) arg4.view.ty)
  (f5 : BufTy.Contents (Elt F) arg5.view.ty) (f6 : BufTy.Contents (Elt F) arg6.view.ty) (f7 : BufTy.Contents (Elt F) arg7.view.ty)
  (f8 : BufTy.Contents (Elt F) arg8.view.ty) (f9 : BufTy.Contents (Elt F) arg9.view.ty)

/-- A weaker fact about what the body leaves may be asked for in place of a stronger one. -/
theorem weaken {Q R : BufTy.Contents (Elt F) arg6.view.ty → BufTy.Contents (Elt F) arg7.view.ty → BufTy.Contents (Elt F) arg8.view.ty → BufTy.Contents (Elt F) arg9.view.ty → Prop}
    (hQR : ∀ g6 g7 g8 g9, Q g6 g7 g8 g9 → R g6 g7 g8 g9) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜R g6 g7 g8 g9⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜Q g6 g7 g8 g9⌝ ∗ held c arg2 f2 ∗ held c arg3 f3 ∗ held c arg4 f4 ∗ held c arg5 f5 ∗ held c arg6 g6 ∗ held c arg7 g7 ∗ held c arg8 g8 ∗ held c arg9 g9) -∗ K ⟨⟩)) := by
  iintro ⟨H2, H3, H4, H5, H6, H7, H8, H9, HK⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g6 %g7 %g8 %g9 ⟨%hq, H⟩
  iapply HK
  isplitr; swap
  · iexact H
  · ipureintro
    exact hQR _ _ _ _ hq

variable (X : Vec F S1x4096x512 .f32) (A : Vec F S1x4096x4096 .f32) (W : Vec F S5x512x512 .f32) (P : Vec F S5x8x512 .f32)

/-- The body at point `t`: what the scratch holds goes one point further, and in the last phase the output's block is the result's. -/
theorem run_point (hI : Inv X A W P t.val (arg7.view.read (Elt F) f7) (arg8.view.read (Elt F) f8) (arg9.view.read (Elt F) f9))
    (h2 : t.val < 16 → arg2.view.read (Elt F) f2 = xblk X t.val)
    (h3 : 16 ≤ t.val → t.val < 64 → arg3.view.read (Elt F) f3 = ablk A (t.val % 16))
    (h4 : arg4.view.read (Elt F) f4 = wblk W (t.val / 16)) (h5 : arg5.view.read (Elt F) f5 = pblk P (t.val / 16)) (K : PUnit → sProp 𝕄) :
    iprop(held c arg2 f2 ∗ held c arg3 f3 ∗ held c arg4 f4 ∗ held c arg5 f5 ∗ held c arg6 f6 ∗ held c arg7 f7 ∗ held c arg8 f8 ∗ held c arg9 f9
        ∗ (∀ g6 g7 g8 g9, iprop(⌜Inv X A W P (t.val + 1) (arg7.view.read (Elt F) g7) (arg8.view.read (Elt F) g8) (arg9.view.read (Elt F) g9)
            ∧ (64 ≤ t.val → arg6.view.read (Elt F) g6 = outB X A W P (t.val % 16))⌝ ∗ held c arg2 f2 ∗ held c arg3 f3 ∗ held c arg4 f4 ∗ held c arg5 f5 ∗ held c arg6 g6 ∗ held c arg7 g7 ∗ held c arg8 g8 ∗ held c arg9 g9) -∗ K ⟨⟩))
      ⊢ wp frame (wpE (defs₀ (F := F)) Variants.none (c : Thread nD τ) none) Set.univ
          (cc0__gcn_body (F := F) (grid0.coords t) arg2 harg2 arg3 harg3 arg4 harg4 arg5 harg5 arg6 harg6 arg7 harg7 arg8 harg8 arg9 harg9) K := by
  have hN : t.val < 80 := lt_of_lt_of_eq t.isLt N_0
  have hc := (coords_eq t).2
  rcases Nat.lt_or_ge t.val 16 with ht | ht
  · obtain ⟨c1, c2, c4, c5⟩ := conds_first t ht
    refine (weaken c arg2 arg3 arg4 arg5 arg6 arg7 arg8 arg9 f2 f3 f4 f5 f6 f7 f8 f9 (fun g6 g7 g8 g9 hq => ⟨?_, fun h => by omega⟩) K).trans
      (run_first c (grid0.coords t) arg2 harg2 arg3 harg3 arg4 harg4 arg5 harg5 arg6 harg6 arg7 harg7 arg8 harg8 arg9 harg9 f2 f3 f4 f5 f6 f7 f8 f9 c1 c2 c4 c5 K)
    refine inv_first ht hI ?_
    rw [hq.2, h2 ht, h4, hc, show t.val % 16 = t.val by omega, show t.val / 16 = 0 by omega]
  rcases Nat.lt_or_ge t.val 64 with ht' | ht'
  · have h3' := h3 ht ht'
    by_cases hn : t.val = 32 ∨ t.val = 48
    · obtain ⟨c1, c2, c3, c4, c5⟩ := conds_norm t hn
      refine (weaken c arg2 arg3 arg4 arg5 arg6 arg7 arg8 arg9 f2 f3 f4 f5 f6 f7 f8 f9 (fun g6 g7 g8 g9 hq => ⟨?_, fun h => by omega⟩) K).trans
        (run_norm c (grid0.coords t) arg2 harg2 arg3 harg3 arg4 harg4 arg5 harg5 arg6 harg6 arg7 harg7 arg8 harg8 arg9 harg9 f2 f3 f4 f5 f6 f7 f8 f9 c1 c2 c3 c4 c5 K)
      rcases hn with hn | hn
      · rw [hn] at hI h3' h4 h5 hc ⊢
        rw [h3', h4, h5, hc] at hq
        exact inv_norm1 hI hq.1 (by rw [hq.2, hq.1])
      · rw [hn] at hI h3' h4 h5 hc ⊢
        rw [h3', h4, h5, hc] at hq
        exact inv_norm2 hI hq.1 (by rw [hq.2, hq.1])
    · have hn1 : t.val ≠ 32 := fun e => hn (Or.inl e)
      have hn2 : t.val ≠ 48 := fun e => hn (Or.inr e)
      obtain ⟨c1, c2, c4, c5⟩ := conds_layer t ht ht' hn1 hn2
      refine (weaken c arg2 arg3 arg4 arg5 arg6 arg7 arg8 arg9 f2 f3 f4 f5 f6 f7 f8 f9 (fun g6 g7 g8 g9 hq => ⟨?_, fun h => by omega⟩) K).trans
        (run_layer c (grid0.coords t) arg2 harg2 arg3 harg3 arg4 harg4 arg5 harg5 arg6 harg6 arg7 harg7 arg8 harg8 arg9 harg9 f2 f3 f4 f5 f6 f7 f8 f9 c1 c2 c4 c5 K)
      rw [h3', h5, hc] at hq
      rcases Nat.lt_or_ge t.val 32 with hp | hp
      · rw [show t.val % 16 = t.val - 16 by omega, show t.val / 16 = 1 by omega] at hq
        exact inv_layer0 ht hp hI hq.1 hq.2
      rcases Nat.lt_or_ge t.val 48 with hp' | hp'
      · rw [show t.val % 16 = t.val - 32 by omega, show t.val / 16 = 2 by omega] at hq
        exact inv_layer1 (by omega) hp' hI hq.1 hq.2
      · rw [show t.val % 16 = t.val - 48 by omega, show t.val / 16 = 3 by omega] at hq
        exact inv_layer2 (by omega) ht' hI hq.1 hq.2
  · have h7 := hI.2.2.2.2.2.2.2.1 ht'
    by_cases hn : t.val = 64
    · obtain ⟨c1, c2, c3, c4, c5⟩ := conds_stats t hn
      refine (weaken c arg2 arg3 arg4 arg5 arg6 arg7 arg8 arg9 f2 f3 f4 f5 f6 f7 f8 f9 (fun g6 g7 g8 g9 hq => ?_) K).trans
        (run_stats c (grid0.coords t) arg2 harg2 arg3 harg3 arg4 harg4 arg5 harg5 arg6 harg6 arg7 harg7 arg8 harg8 arg9 harg9 f2 f3 f4 f5 f6 f7 f8 f9 c1 c2 c3 c4 c5 K)
      rw [h5, hc, h7, show t.val / 16 = 4 by omega] at hq
      exact ⟨inv_last ht' hq.2.1 hq.2.2, fun _ => hq.1⟩
    · obtain ⟨c1, c2, c4, c5⟩ := conds_last t (by omega)
      have ha := hI.2.2.2.2.2.2.2.2 (by omega)
      refine (weaken c arg2 arg3 arg4 arg5 arg6 arg7 arg8 arg9 f2 f3 f4 f5 f6 f7 f8 f9 (fun g6 g7 g8 g9 hq => ?_) K).trans
        (run_last c (grid0.coords t) arg2 harg2 arg3 harg3 arg4 harg4 arg5 harg5 arg6 harg6 arg7 harg7 arg8 harg8 arg9 harg9 f2 f3 f4 f5 f6 f7 f8 f9 c1 c2 c4 c5 K)
      rw [h5, hc, h7, ha.1, ha.2, show t.val / 16 = 4 by omega] at hq
      exact ⟨inv_last ht' hq.2.1 (by rw [hq.2.2]; exact ha), fun _ => hq.1⟩

end Cert.KernelIdeal.Body

end
-- ==== Proof.ValueRun.lean ====
/-
  `KernelIdeal`'s run: the launch carrying what the scratch holds from point to point, the result array read back, and
  the frame claim.
-/
module

public import proofs.«01_k».proof.Defs
public import proofs.«01_k».proof.Proof.BodyPoint
public import Idealize.ShloMosaic.Lib.Pipeline.DatRel
public import Idealize.ShloMosaic.Lib.Pipeline.ArrRel

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output window is held to a relation. -/
def fgt : Fin 5 → Bool := fun | 4 => true | _ => false

/-- What the output's block is after a point: in the last phase the result's. -/
def Rl (c : Dev nD) : (w : Fin cfg0.W) → Fin cfg0.N → ((cfg0.win w).block.Idx → Elt F (cfg0.win w).elt) → Prop := fun w t X =>
  match w with
  | 0 => True
  | 1 => True
  | 2 => True
  | 3 => True
  | 4 => 64 ≤ t.val → X = outB (arrX m c) (arrA m c) (arrW m c) (arrP m c) (t.val % 16)

/-- The scratch before point `n`, and the generator register. -/
def carried (c : Dev nD) (n : ℕ) : sProp 𝕄 :=
  iprop(∃ h t acc, ⌜Inv (arrX m c) (arrA m c) (arrW m c) (arrP m c) n h t acc⌝
    ∗ owns (c : Thread nD τ) (Memref.whole cc0_scratch0) fullShare h ∗ owns (c : Thread nD τ) (Memref.whole cc0_scratch1) fullShare t
    ∗ owns (c : Thread nD τ) (Memref.whole cc0_scratch2) fullShare acc ∗ (∃ r, prngReg c r))

/-- The proof data on core `c`: each array as the region finds it; the input windows left in place; the scratch carried. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
  Φ t := carried m c t.val
  q _ := fullShare
  owed _ := 0

/-- The proof data's arrays are the contents at the region's entry. -/
theorem A_eq (c : Dev nD) (w : Fin cfg0.W) : (dats m 0 c).A w = V m c (Pipeline.arrRef spec0 w) := by dsimp only [dats]

/-- A step finds its block of the features staged. -/
theorem before_0 (c : Dev nD) (t : Fin cfg0.N) (d) : (dats m 0 c).before 0 t d = iblk m c 0 t :=
  before0_0_of m (dats m 0 c) (A_eq m c 0) (fun _ => by dsimp only [dats]) t d
/-- A step finds its block of the adjacency matrix staged. -/
theorem before_1 (c : Dev nD) (t : Fin cfg0.N) (d) : (dats m 0 c).before 1 t d = iblk m c 1 t :=
  before0_1_of m (dats m 0 c) (A_eq m c 1) (fun _ => by dsimp only [dats]) t d
/-- A step finds its block of the weights staged. -/
theorem before_2 (c : Dev nD) (t : Fin cfg0.N) (d) : (dats m 0 c).before 2 t d = iblk m c 2 t :=
  before0_2_of m (dats m 0 c) (A_eq m c 2) (fun _ => by dsimp only [dats]) t d
/-- A step finds its block of the parameters staged. -/
theorem before_3 (c : Dev nD) (t : Fin cfg0.N) (d) : (dats m 0 c).before 3 t d = iblk m c 3 t :=
  before0_3_of m (dats m 0 c) (A_eq m c 3) (fun _ => by dsimp only [dats]) t d

/-- What the body is called with at point `t`. -/
def bodyPre (c : Dev nD) (t : Fin cfg0.N) : sProp 𝕄 :=
  iprop(carried m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel fgt (Rl m c)).Finds 4 t Y⌝ ∗ owns (c : Thread nD τ) (st0_4 t) fullShare Y))

/-- What it returns. -/
def bodyPost (c : Dev nD) (t : Fin cfg0.N) : sProp 𝕄 :=
  iprop(carried m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X))

/-- The scratch and the generator register, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

/-- The body at a point: the scratch opened, `run_point`, the scratch closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 carried
  rw [show (dats m 0 c).owesAt () t.succ = (dats m 0 c).owesAt () t.castSucc from rfl]
  simp only [before_0, before_1, before_2, before_3]
  rw [show (dats m 0 c).after 0 t = iblk m c 0 t from by dsimp only [dats], show (dats m 0 c).after 1 t = iblk m c 1 t from by dsimp only [dats],
    show (dats m 0 c).after 2 t = iblk m c 2 t from by dsimp only [dats], show (dats m 0 c).after 3 t = iblk m c 3 t from by dsimp only [dats]]
  unfold owns
  iintro ⟨⟨%d7, %d8, %d9, %hI, ⟨%f7, %h7, H7⟩, ⟨%f8, %h8, H8⟩, ⟨%f9, %h9, H9⟩, Hg⟩, HO, ⟨%e0, %f0, %h0, H0⟩, ⟨%e1, %f1, %h1, H1⟩, ⟨%e2, %f2, %h2, H2⟩, ⟨%e3, %f3, %h3, H3⟩, ⟨%e4, -, %f4, -, H4⟩⟩
  subst h7 h8 h9
  iapply (run_point c t _ _ _ _ _ _ _ _ _ _ _ _ _ _ _ _ f0 f1 f2 f3 f4 f7 f8 f9 (arrX m c) (arrA m c) (arrW m c) (arrP m c) hI
    (fun ht => h0.trans (iblk_x m c t ht)) (fun ht ht' => h1.trans (iblk_a m c t ht ht')) (h2.trans (iblk_w m c t)) (h3.trans (iblk_p m c t)) _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  iintro %g4 %g7 %g8 %g9 ⟨%hq, H0, H1, H2, H3, H4, H7, H8, H9⟩
  isplitl [H7 H8 H9 Hg]
  · iexists _, _, _
    isplitr; swap
    · isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      iexact Hg
    · ipureintro
      exact hq.1
  isplitl [HO]; · iexact HO
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  iexists _
  isplitr; swap
  · iexists _; isplitr; swap; · iexact H4
    ipureintro; rfl
  · ipureintro
    exact hq.2

/-- The body table's row at a point is the body as the schedule spells it. -/
theorem defs₀_row (t : Fin cfg0.N) : defs₀ (F := F) .tc cfg0.body (cfg0.bodyArgs t (cfg0.slots t)) = bodyAt0 t := by
  unfold defs₀; rw [Defs.onTc_tc]

/-- The library's body obligation with the output held to `Rl`. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The scratch at anything is what the first point finds. -/
theorem carried_in (c : Dev nD) : (Pipeline.ΦA spec0 c : sProp 𝕄) ⊢ carried m c 0 := by
  rw [PhiA_eq]; unfold carried
  iintro ⟨⟨⟨%d7, H7⟩, ⟨%d8, H8⟩, ⟨%d9, H9⟩⟩, Hg⟩
  iexists d7, d8, d9
  isplitr
  · ipureintro; exact inv_zero _ _ _
  isplitl [H7]; · iexact H7
  isplitl [H8]; · iexact H8
  isplitl [H9]; · iexact H9
  iexact Hg

/-- After the last point the scratch is forgotten. -/
theorem carried_out (c : Dev nD) (n : ℕ) : carried m c n ⊢ (Pipeline.ΦA spec0 c : sProp 𝕄) := by
  rw [PhiA_eq]; unfold carried
  iintro ⟨%d7, %d8, %d9, -, H7, H8, H9, Hg⟩
  isplitr [Hg]
  · isplitl [H7]; · iexists d7; iexact H7
    isplitl [H8]; · iexists d8; iexact H8
    iexists d9; iexact H9
  · iexact Hg

set_option backward.isDefEq.respectTransparency.types false in
/-- Every weakly fair execution terminates, the arrays ending at what the relation lets them. -/
theorem run_main :
    θ_run defs (onTc (τ := τ) (main (F := F))) (s₀ m ρ)
      (fun r => RDat.FramePost (cfgs 0) (fun c => (dats m 0 c).toRRel fgt (Rl m c)) (V m) r ∧ r.2.sem = fun _ => 0) :=
  RDat.θ_run_frame_track (Q' := _) cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m)
    (hin := carried_in m) (hout := fun c => carried_out m c _)

/-- The result array: its sixteen blocks of 256 rows. -/
def result (c : Dev nD) : Buf (Elt F) ((c : Thread nD τ).loc main_v63) :=
  fun y : S4096x256.Idx => outB (arrX m c) (arrA m c) (arrW m c) (arrP m c) ((y 0).val / 256) (ix2 ⟨(y 0).val % 256, Nat.mod_lt _ (by decide)⟩ (y 1))

/-- Later points overwrite earlier ones: an index in the block of a point from `n₀` on ends at `G` if the points from `n₀` on
    write blocks of `G`. -/
theorem arrAt_last {cfg : Cfg sig Λ₀} {c : Dev nD} (dat : Dat τ (Elt F) Unit ℕ (UR sig nD τ) ℕ cfg c) (w : Fin cfg.W)
    (G : Buf (Elt F) ((cfg.win w).arr.view.loc (c.tc : Thread nD τ))) (n₀ : ℕ) (hf : ∀ t : Fin cfg.N, (cfg.win w).flush t = true)
    (hG : ∀ t : Fin cfg.N, n₀ ≤ t.val → dat.flushed w t = ((cfg.win w).blk t).view.read (Elt F) G) :
    ∀ (n : ℕ) (t : Fin cfg.N) (i : ((cfg.win w).arr.view.loc (c.tc : Thread nD τ)).2.ty.Idx), n₀ ≤ t.val → t.val < n →
      i ∈ ((cfg.win w).blk t).view.set → dat.arrAt w n i = G i
  | 0, _, _, _, ht, _ => absurd ht (Nat.not_lt_zero _)
  | n + 1, t, i, h0, ht, hi => by
    rw [dat.arrAt_succ_apply]
    by_cases hn : n < cfg.N
    swap
    · rw [dif_neg hn]
      exact arrAt_last dat w G n₀ hf hG n t i h0 (by have := t.isLt; omega) hi
    rw [dif_pos hn, if_pos (hf ⟨n, hn⟩), hG ⟨n, hn⟩ (Nat.le_of_lt_succ (lt_of_le_of_lt h0 ht)), View.write_read_eq_piecewise]
    by_cases hin : i ∈ ((cfg.win w).blk ⟨n, hn⟩).view.setOn Finset.univ
    · rw [Finset.piecewise_eq_of_mem _ _ _ hin]
    · rw [Finset.piecewise_eq_of_notMem _ _ _ hin]
      have htn : t.val ≠ n := fun e => hin (by rw [View.setOn_univ]; have : t = ⟨n, hn⟩ := Fin.ext e; exact this ▸ hi)
      exact arrAt_last dat w G n₀ hf hG n t i h0 (by omega) hi

/-- The result at an index whose row is in block `b`. -/
theorem result_at (c : Dev nD) (y : S4096x256.Idx) (b : ℕ) (x : S256x256.Idx) (h0 : (y 0).val = 256 * b + (x 0).val) (h1 : (y 1).val = (x 1).val) :
    result m c y = outB (arrX m c) (arrA m c) (arrW m c) (arrP m c) b x := by
  have hx : (x 0).val < 256 := (x 0).isLt
  unfold result
  have e : (y 0).val / 256 = b := by omega
  have e' : (y 0).val % 256 = (x 0).val := by omega
  rw [e]
  refine congrArg (outB (arrX m c) (arrA m c) (arrW m c) (arrP m c) b) (funext fun a => Fin.ext ?_)
  match a with
  | ⟨0, _⟩ => exact e'
  | ⟨1, _⟩ => exact h1

/-- Block `b` of the result array is the result's block `b`. -/
theorem result_blk (c : Dev nD) (t : Fin cfg0.N) :
    ((cfg0.win 4).blk t).view.read (Elt F) (result m c) = outB (arrX m c) (arrA m c) (arrW m c) (arrP m c) (t.val % 16) := by
  have hi := index4 t
  funext j
  rw [View.read_apply]
  refine result_at m c (((cfg0.win 4).blk t).view.emb j) (t.val % 16) j ?_ ?_
  · show win0_4.index t 0 * 256 + 1 * (j 0).val = _
    rw [hi.1]; omega
  · show win0_4.index t 1 * 256 + 1 * (j 1).val = _
    rw [hi.2]; omega

/-- An index whose row is in block `t mod 16` is in the block of point `t`. -/
theorem mem_blk (t : Fin cfg0.N) (i : S4096x256.Idx) (ht : t.val % 16 = (i 0).val / 256) : i ∈ ((cfg0.win 4).blk t).view.set := by
  have h0 : (i 0).val < 4096 := (i 0).isLt
  have h1 : (i 1).val < 256 := (i 1).isLt
  have hi := index4 t
  show i ∈ ((View.whole main_v63).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [hi.1]; omega
  | ⟨1, _⟩ =>
    show win0_4.index t 1 * 256 ≤ (i 1).val ∧ (i 1).val < win0_4.index t 1 * 256 + 256
    rw [hi.2]; omega

/-- Every index of the result array is in the block of a point of the last phase. -/
theorem result_cover (i : S4096x256.Idx) : ∃ t : Fin cfg0.N, 64 ≤ t.val ∧ i ∈ ((cfg0.win 4).blk t).view.set := by
  have h0 : (i 0).val < 4096 := (i 0).isLt
  exact ⟨⟨64 + (i 0).val / 256, by rw [show cfg0.N = 80 from N_0]; omega⟩, by show 64 ≤ 64 + (i 0).val / 256; omega,
    mem_blk _ i (by show (64 + (i 0).val / 256) % 16 = (i 0).val / 256; omega)⟩

/-- The result array after the run. -/
theorem final {r : PUnit × MemSt nD τ sig (Elt F)} (h : RDat.FramePost (cfgs 0) (fun c => (dats m 0 c).toRRel fgt (Rl m c)) (V m) r) (c : Dev nD) :
    r.2.mem ((c : Thread nD τ).loc main_v63) = result m c := by
  obtain ⟨after, hL, hA⟩ := h.exists_exact c
  refine (hA 4).trans (funext fun i => ?_)
  obtain ⟨t, h64, hi⟩ := result_cover i
  refine arrAt_last _ 4 (result m c) 64 flush0_4 (fun t ht => ?_) _ t i h64 t.isLt hi
  have hl : Rl m c 4 t (after 4 t) := (dats m 0 c).toRRel_leaves rfl (hL 4 t (flush0_4 t))
  have hl' := hl ht
  rw [result_blk]
  show (cfg0.win 4).cut (grid0.coords t) (after 4 t) = _
  rw [hl']
  rfl

/-- The arguments after the run are as they were. -/
theorem args_kept {r : PUnit × MemSt nD τ sig (Elt F)} (h : RDat.FramePost (cfgs 0) (fun c => (dats m 0 c).toRRel fgt (Rl m c)) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
    ⟨(h.arr_in c 0 rfl).trans (V_main_arg0 m c), (h.arr_in c 1 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩

/-- `KernelIdeal` runs to its end from any memory, leaves every argument as it was and every counter at zero. -/
theorem frame : Cert.quiescent_KernelIdeal (hKernelIdeal := Cert.KernelIdeal.Gen.facts) := fun m ρ _ =>
  (θ_run defs _ _).mono (fun _ h => ⟨fun c => args_kept m h.1 c, h.2⟩) (run_main m ρ)

/-- The run, read: the result array at `result`, the arguments unchanged. -/
theorem run_value : θ_run defs (onTc (τ := τ) (main (F := F))) (s₀ m ρ) (fun r => ∀ c : Dev nD,
    r.2.mem ((c : Thread nD τ).loc main_v63) = result m c ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun _ h c => ⟨final m h.1 c, args_kept m h.1 c⟩) (run_main m ρ)

end Cert.KernelIdeal.Body

end
-- ==== Proof.Spec.lean ====
/-
  The graph convolution network as plain functions of indices over the extended reals: the sums, the mean and the
  deviation of a column, a normalised column and a layer. Both programs are shown to compute these.
-/
module

public import Idealize.ShloMosaic.Lib.Pointwise

@[expose] public section

noncomputable section

namespace Cert.Spec

open Idealize.ShloMosaic

/-- The extended real of the small constant added to a variance. -/
def eps : EReal := Ideal.ofBits .f32 0x3727C5AC#32

/-- The number of nodes. -/
def count : EReal := Ideal.ofBits .f32 0x45800000#32

/-- A column of node features times a column of weights. -/
def lin (h : Fin 4096 → Fin 512 → EReal) (w : Fin 512 → EReal) (n : Fin 4096) : EReal := ∑ j, h n j * w j

/-- A column aggregated over the adjacency matrix, its bias added, cut off at zero. -/
def conv (A : Fin 4096 → Fin 4096 → EReal) (t : Fin 4096 → EReal) (b : EReal) (n : Fin 4096) : EReal :=
  max ((∑ k, A n k * t k) + b) 0

/-- The mean of a column. -/
def mean (r : Fin 4096 → EReal) : EReal := Ideal.div (∑ n, r n) count

/-- The square root of a column's variance plus the small constant. -/
def dev (r : Fin 4096 → EReal) : EReal :=
  Ideal.sqrt (Ideal.div (∑ n, (r n - mean r) * (r n - mean r)) count + eps)

/-- A column normalised by its mean and deviation, scaled and shifted. -/
def normed (r : Fin 4096 → EReal) (g be : EReal) (n : Fin 4096) : EReal :=
  Ideal.div (r n - mean r) (dev r) * g + be

/-- A column of one layer: of features `h`, weights `w` and bias `b`, before its normalisation. -/
def layer (A : Fin 4096 → Fin 4096 → EReal) (h : Fin 4096 → Fin 512 → EReal) (w : Fin 512 → EReal) (b : EReal) :
    Fin 4096 → EReal :=
  conv A (lin h w) b

/-- The features that a layer passes on: its columns, normalised. -/
def next {C : ℕ} (A : Fin 4096 → Fin 4096 → EReal) (h : Fin 4096 → Fin 512 → EReal) (W : Fin 512 → Fin C → EReal)
    (b g be : Fin C → EReal) (n : Fin 4096) (c : Fin C) : EReal :=
  normed (layer A h (fun j => W j c) (b c)) (g c) (be c) n

/-- The network of three layers. -/
def net (A : Fin 4096 → Fin 4096 → EReal) (x : Fin 4096 → Fin 512 → EReal)
    (W1 : Fin 512 → Fin 512 → EReal) (b1 : Fin 512 → EReal) (W2 : Fin 512 → Fin 512 → EReal) (b2 : Fin 512 → EReal)
    (W3 : Fin 512 → Fin 256 → EReal) (b3 : Fin 256 → EReal) (g1 be1 g2 be2 : Fin 512 → EReal) (g3 be3 : Fin 256 → EReal) :
    Fin 4096 → Fin 256 → EReal :=
  next A (next A (next A x W1 b1 g1 be1) W2 b2 g2 be2) W3 b3 g3 be3

/-- The count is 4096. -/
theorem count_eq : count = ((4096 : ℝ) : EReal) := by
  simp [count, Ideal.ofBits, Ideal.ieee, -EReal.coe_mul]; norm_num

/-- The kernel's factor is one over the count. -/
theorem factor_eq : Ideal.ofBits .f32 0x39800000#32 = ((1 / 4096 : ℝ) : EReal) := by
  simp [Ideal.ofBits, Ideal.ieee, -EReal.coe_mul]; norm_num

/-- To multiply by the kernel's factor is to divide by the count. -/
theorem mul_factor (x : EReal) : x * Ideal.ofBits .f32 0x39800000#32 = Ideal.div x count := by
  rw [factor_eq, count_eq, Ideal.div_coe (by norm_num)]

end Cert.Spec

end
-- ==== Proof.Reference.lean ====
/-
  The reference over the extended reals: each layer's columns, their means and deviations, and the result as the network of
  three layers.
-/
module

public import proofs.«01_k».proof.Proof.Spec
public import proofs.«01_k».proof.Proof.Gen.ReferenceIdeal.Read

@[expose] public section

noncomputable section

namespace Cert.ReferenceIdeal.Layers

open Cert.ReferenceIdeal Cert.ReferenceIdeal.Gen Cert.ReferenceIdeal.Read
open Idealize.ShloMosaic Cert.Spec

/-- The count less the zero that the variance takes off it. -/
theorem count_sub : count - (FloatOps.sitofp .f32 (0#32) : Ideal .f32) = count := by
  have h : (FloatOps.sitofp .f32 (0#32) : Ideal .f32) = 0 := by
    show (((0#32).toInt : ℝ) : EReal) = 0
    simp
  rw [h]; exact sub_zero count

/-- The count is positive. -/
theorem count_pos : 0 < count := by rw [count_eq]; exact_mod_cast (by norm_num : (0 : ℝ) < 4096)

/-- The reference's deviation of a column: its choice always takes the variance. -/
theorem dev_form (r : Fin 4096 → EReal) (J : EReal) :
    Ideal.sqrt ((if 0 < count - (FloatOps.sitofp .f32 (0#32) : Ideal .f32)
        then Ideal.div (∑ x, (r x - Ideal.div (∑ x, r x) count) * (r x - Ideal.div (∑ x, r x) count))
          (count - (FloatOps.sitofp .f32 (0#32) : Ideal .f32)) else J) + eps) = dev r := by
  rw [count_sub, if_pos count_pos]; rfl

variable (x0 : Vec Ideal S1x4096x512 .f32) (x1 : Vec Ideal S1x4096x4096 .f32) (x2 : Vec Ideal S512x512 .f32)
  (x3 : Vec Ideal S512 .f32) (x4 : Vec Ideal S512x512 .f32) (x5 : Vec Ideal S512 .f32) (x6 : Vec Ideal S512x256 .f32)
  (x7 : Vec Ideal S256 .f32) (x8 x9 x10 x11 : Vec Ideal S512 .f32) (x12 x13 : Vec Ideal S256 .f32)

/-- A column of the first layer. -/
theorem col_1 (n : Fin 4096) (c : Fin 512) :
    val_main_v9 (F := Ideal) x0 x1 x2 x3 (ix2 n c)
      = layer (fun n k => x1 (ix3 0 n k)) (fun n j => x0 (ix3 0 n j)) (fun j => x2 (ix2 j c)) (x3 (ix1 c)) n := by
  pointwise [val_main_v9, val_main_v8, val_main_v7, val_main_v6, val_main_v5, val_main_v4, val_main_v3, val_main_v2,
     val_main_v1, val_main_v0, val_main_call0_v0, val_main_call0_cst]
  rfl

/-- The mean of a column of the first layer. -/
theorem mean_1 (c : Fin 512) :
    val_main_v12 (F := Ideal) x0 x1 x2 x3 (ix1 c) = mean (fun n => val_main_v9 (F := Ideal) x0 x1 x2 x3 (ix2 n c)) := by
  pointwise [val_main_v12, val_main_v11, val_main_v10, val_main_cst, val_main_cst_0]
  rfl

/-- The deviation of a column of the first layer. -/
theorem dev_1 (c : Fin 512) :
    val_main_v19 (F := Ideal) x0 x1 x2 x3 (ix1 c) = dev (fun n => val_main_v9 (F := Ideal) x0 x1 x2 x3 (ix2 n c)) := by
  pointwise [val_main_v19, val_main_v18, val_main_v17, val_main_cst_1, val_main_v13, val_main_call1_call0_v1,
     val_main_call1_call0_v0, val_main_call1_cst_4, val_main_call1_v12, val_main_call1_cst_3,
     val_main_call1_v11, val_main_call1_v10, val_main_call1_v9, val_main_call1_cst_2, val_main_call1_v8,
     val_main_call1_cst_1, val_main_call1_v7, val_main_call1_v6, val_main_call1_v5, val_main_call1_v4,
     val_main_call1_v3, val_main_call1_v2, val_main_call1_cst_0, val_main_call1_v1, val_main_call1_v0,
     val_main_call1_cst, val_main_c]
  exact dev_form (fun n => val_main_v9 (F := Ideal) x0 x1 x2 x3 (ix2 n c)) _

/-- What the first layer passes on. -/
theorem next_1 (n : Fin 4096) (c : Fin 512) :
    val_main_v29 (F := Ideal) x0 x1 x2 x3 x8 x9 (ix3 0 n c)
      = next (fun n k => x1 (ix3 0 n k)) (fun n j => x0 (ix3 0 n j)) (fun j k => x2 (ix2 j k)) (fun k => x3 (ix1 k))
          (fun k => x8 (ix1 k)) (fun k => x9 (ix1 k)) n c := by
  pointwise [val_main_v29, val_main_v28, val_main_v27, val_main_v26, val_main_v25, val_main_v24, val_main_v23,
     val_main_v22, val_main_v21, val_main_v20, val_main_v16, val_main_v15, val_main_v14]
  rw [mean_1, dev_1]
  have e : (fun n => val_main_v9 (F := Ideal) x0 x1 x2 x3 (ix2 n c)) = _ := funext fun n => col_1 x0 x1 x2 x3 n c
  unfold next
  rw [← e]
  rfl

/-- A column of the second layer. -/
theorem col_2 (n : Fin 4096) (c : Fin 512) :
    val_main_v39 (F := Ideal) x0 x1 x2 x3 x4 x5 x8 x9 (ix2 n c)
      = layer (fun n k => x1 (ix3 0 n k)) (fun n j => val_main_v29 (F := Ideal) x0 x1 x2 x3 x8 x9 (ix3 0 n j)) (fun j => x4 (ix2 j c)) (x5 (ix1 c)) n := by
  pointwise [val_main_v39, val_main_v38, val_main_v37, val_main_v36, val_main_v35, val_main_v34, val_main_v33,
     val_main_v32, val_main_v31, val_main_v30, val_main_call2_v0, val_main_call2_cst]
  rfl

/-- The mean of a column of the second layer. -/
theorem mean_2 (c : Fin 512) :
    val_main_v42 (F := Ideal) x0 x1 x2 x3 x4 x5 x8 x9 (ix1 c) = mean (fun n => val_main_v39 (F := Ideal) x0 x1 x2 x3 x4 x5 x8 x9 (ix2 n c)) := by
  pointwise [val_main_v42, val_main_v41, val_main_v40, val_main_cst_2, val_main_cst_3]
  rfl

/-- The deviation of a column of the second layer. -/
theorem dev_2 (c : Fin 512) :
    val_main_v49 (F := Ideal) x0 x1 x2 x3 x4 x5 x8 x9 (ix1 c) = dev (fun n => val_main_v39 (F := Ideal) x0 x1 x2 x3 x4 x5 x8 x9 (ix2 n c)) := by
  pointwise [val_main_v49, val_main_v48, val_main_v47, val_main_cst_5, val_main_v43, val_main_call3_call0_v1,
     val_main_call3_call0_v0, val_main_call3_cst_4, val_main_call3_v12, val_main_call3_cst_3,
     val_main_call3_v11, val_main_call3_v10, val_main_call3_v9, val_main_call3_cst_2, val_main_call3_v8,
     val_main_call3_cst_1, val_main_call3_v7, val_main_call3_v6, val_main_call3_v5, val_main_call3_v4,
     val_main_call3_v3, val_main_call3_v2, val_main_call3_cst_0, val_main_call3_v1, val_main_call3_v0,
     val_main_call3_cst, val_main_c_4]
  exact dev_form (fun n => val_main_v39 (F := Ideal) x0 x1 x2 x3 x4 x5 x8 x9 (ix2 n c)) _

/-- What the second layer passes on. -/
theorem next_2 (n : Fin 4096) (c : Fin 512) :
    val_main_v59 (F := Ideal) x0 x1 x2 x3 x4 x5 x8 x9 x10 x11 (ix3 0 n c)
      = next (fun n k => x1 (ix3 0 n k)) (fun n j => val_main_v29 (F := Ideal) x0 x1 x2 x3 x8 x9 (ix3 0 n j)) (fun j k => x4 (ix2 j k)) (fun k => x5 (ix1 k))
          (fun k => x10 (ix1 k)) (fun k => x11 (ix1 k)) n c := by
  pointwise [val_main_v59, val_main_v58, val_main_v57, val_main_v56, val_main_v55, val_main_v54, val_main_v53,
     val_main_v52, val_main_v51, val_main_v50, val_main_v46, val_main_v45, val_main_v44]
  rw [mean_2, dev_2]
  have e : (fun n => val_main_v39 (F := Ideal) x0 x1 x2 x3 x4 x5 x8 x9 (ix2 n c)) = _ := funext fun n => col_2 x0 x1 x2 x3 x4 x5 x8 x9 n c
  unfold next
  rw [← e]
  rfl

/-- A column of the third layer. -/
theorem col_3 (n : Fin 4096) (c : Fin 256) :
    val_main_v69 (F := Ideal) x0 x1 x2 x3 x4 x5 x6 x7 x8 x9 x10 x11 (ix2 n c)
      = layer (fun n k => x1 (ix3 0 n k)) (fun n j => val_main_v59 (F := Ideal) x0 x1 x2 x3 x4 x5 x8 x9 x10 x11 (ix3 0 n j)) (fun j => x6 (ix2 j c)) (x7 (ix1 c)) n := by
  pointwise [val_main_v69, val_main_v68, val_main_v67, val_main_v66, val_main_v65, val_main_v64, val_main_v63,
     val_main_v62, val_main_v61, val_main_v60, val_main_call4_v0, val_main_call4_cst]
  rfl

/-- The mean of a column of the third layer. -/
theorem mean_3 (c : Fin 256) :
    val_main_v72 (F := Ideal) x0 x1 x2 x3 x4 x5 x6 x7 x8 x9 x10 x11 (ix1 c) = mean (fun n => val_main_v69 (F := Ideal) x0 x1 x2 x3 x4 x5 x6 x7 x8 x9 x10 x11 (ix2 n c)) := by
  pointwise [val_main_v72, val_main_v71, val_main_v70, val_main_cst_6, val_main_cst_7]
  rfl

/-- The deviation of a column of the third layer. -/
theorem dev_3 (c : Fin 256) :
    val_main_v79 (F := Ideal) x0 x1 x2 x3 x4 x5 x6 x7 x8 x9 x10 x11 (ix1 c) = dev (fun n => val_main_v69 (F := Ideal) x0 x1 x2 x3 x4 x5 x6 x7 x8 x9 x10 x11 (ix2 n c)) := by
  pointwise [val_main_v79, val_main_v78, val_main_v77, val_main_cst_9, val_main_v73, val_main_call5_call0_v1,
     val_main_call5_call0_v0, val_main_call5_cst_4, val_main_call5_v12, val_main_call5_cst_3,
     val_main_call5_v11, val_main_call5_v10, val_main_call5_v9, val_main_call5_cst_2, val_main_call5_v8,
     val_main_call5_cst_1, val_main_call5_v7, val_main_call5_v6, val_main_call5_v5, val_main_call5_v4,
     val_main_call5_v3, val_main_call5_v2, val_main_call5_cst_0, val_main_call5_v1, val_main_call5_v0,
     val_main_call5_cst, val_main_c_8]
  exact dev_form (fun n => val_main_v69 (F := Ideal) x0 x1 x2 x3 x4 x5 x6 x7 x8 x9 x10 x11 (ix2 n c)) _

/-- What the third layer passes on. -/
theorem next_3 (n : Fin 4096) (c : Fin 256) :
    val_main_v88 (F := Ideal) x0 x1 x2 x3 x4 x5 x6 x7 x8 x9 x10 x11 x12 x13 (ix2 n c)
      = next (fun n k => x1 (ix3 0 n k)) (fun n j => val_main_v59 (F := Ideal) x0 x1 x2 x3 x4 x5 x8 x9 x10 x11 (ix3 0 n j)) (fun j k => x6 (ix2 j k)) (fun k => x7 (ix1 k))
          (fun k => x12 (ix1 k)) (fun k => x13 (ix1 k)) n c := by
  pointwise [val_main_v88, val_main_v87, val_main_v86, val_main_v85, val_main_v84, val_main_v83, val_main_v82,
     val_main_v81, val_main_v80, val_main_v76, val_main_v75, val_main_v74]
  rw [mean_3, dev_3]
  have e : (fun n => val_main_v69 (F := Ideal) x0 x1 x2 x3 x4 x5 x6 x7 x8 x9 x10 x11 (ix2 n c)) = _ := funext fun n => col_3 x0 x1 x2 x3 x4 x5 x6 x7 x8 x9 x10 x11 n c
  unfold next
  rw [← e]
  rfl

/-- The reference's result at a row and a column is the network's. -/
theorem result_at (n : Fin 4096) (c : Fin 256) :
    val_main_v88 (F := Ideal) x0 x1 x2 x3 x4 x5 x6 x7 x8 x9 x10 x11 x12 x13 (ix2 n c)
      = net (fun n k => x1 (ix3 0 n k)) (fun n j => x0 (ix3 0 n j)) (fun j k => x2 (ix2 j k)) (fun k => x3 (ix1 k))
          (fun j k => x4 (ix2 j k)) (fun k => x5 (ix1 k)) (fun j k => x6 (ix2 j k)) (fun k => x7 (ix1 k))
          (fun k => x8 (ix1 k)) (fun k => x9 (ix1 k)) (fun k => x10 (ix1 k)) (fun k => x11 (ix1 k))
          (fun k => x12 (ix1 k)) (fun k => x13 (ix1 k)) n c := by
  rw [next_3]
  simp only [next_2, next_1]
  rfl

end Cert.ReferenceIdeal.Layers

end
-- ==== Proof.Payloads.lean ====
/-
  What each of the kernel's blocks computes over the extended reals, at an index, and the sum of 256 rows as the halving
  tree of sums that the kernel takes.
-/
module

public import proofs.«01_k».proof.Proof.Spec
public import proofs.«01_k».proof.Proof.Gen.KernelIdeal.Skeleton

@[expose] public section

noncomputable section

namespace Cert.KernelIdeal.Value

open Cert.KernelIdeal Cert.KernelIdeal.Gen
open Idealize.ShloMosaic Cert.Spec

/-- The first product of a block: rows times weights. -/
theorem pay1_at (x : Vec Ideal S1x256x512 .f32) (w : Vec Ideal S1x512x512 .f32) (n : Fin 256) (c : Fin 512) :
    k0_pay1 (F := Ideal) x w (ix2 n c) = ∑ j : Fin 512, x (ix3 0 n j) * w (ix3 0 j c) := by
  pointwise [k0_pay1]

/-- Rows normalised by given means and deviations, scaled, shifted and multiplied by weights. -/
theorem pay5_at (m : FVec Ideal S512 .f32) (v : FVec Ideal S4x512 .f32) (g be : Vec Ideal S1x1x512 .f32)
    (h : Vec Ideal S512x512 .f32) (w : Vec Ideal S1x512x512 .f32) (n c : Fin 512) :
    k0_pay5 (F := Ideal) m v g be h w (ix2 n c)
      = ∑ j : Fin 512, (Ideal.div (h (ix2 n j) - m (ix1 j)) (k0_pay2 (F := Ideal) v (ix1 j)) * g (ix3 0 0 j)
          + be (ix3 0 0 j)) * w (ix3 0 j c) := by
  pointwise [k0_pay5]

/-- Rows of the adjacency times a table, the bias added, cut off at zero. -/
theorem pay7_at (a : Vec Ideal S1x256x4096 .f32) (t : Vec Ideal S4096x512 .f32) (b : Vec Ideal S1x1x512 .f32)
    (n : Fin 256) (c : Fin 512) :
    k0_pay7 (F := Ideal) a t b (ix2 n c)
      = max ((∑ k : Fin 4096, a (ix3 0 n k) * t (ix2 k c)) + b (ix3 0 0 c)) 0 := by
  pointwise [k0_pay7, k0_pay6]

/-- The first 256 columns of rows normalised by given means and deviations, scaled and shifted. -/
theorem pay9_at (h : Vec Ideal S256x512 .f32) (g be : Vec Ideal S1x1x512 .f32) (m : FVec Ideal S512 .f32)
    (v : FVec Ideal S4x512 .f32) (n c : Fin 256) (c' : Fin 512) (hc : c'.val = c.val) :
    k0_pay9 (F := Ideal) h g be (k0_pay3 m) (k0_pay4 v) (ix2 n c)
      = Ideal.div (h (ix2 n c') - m (ix1 c')) (k0_pay2 (F := Ideal) v (ix1 c')) * g (ix3 0 0 c') + be (ix3 0 0 c') := by
  have e : (⟨c.val, by omega⟩ : Fin 512) = c' := Fin.ext hc.symm
  rw [← e]
  pointwise [k0_pay9, k0_pay3, k0_pay4]

/-- One step of the sum of squared differences from a mean. -/
theorem pay13_at (v acc x : FVec Ideal S256x512 .f32) (r : Fin 256) (c : Fin 512) :
    k0_pay13 (F := Ideal) v acc x (ix2 r c)
      = acc (ix2 r c) + (x (ix2 r c) - k0_pay12 (F := Ideal) v (ix1 c)) * (x (ix2 r c) - k0_pay12 (F := Ideal) v (ix1 c)) := by
  pointwise [k0_pay13]

/-- One step of a sum of rows. -/
theorem pay11_at (acc x : FVec Ideal S256x512 .f32) (r : Fin 256) (c : Fin 512) :
    k0_pay11 (F := Ideal) acc x (ix2 r c) = acc (ix2 r c) + x (ix2 r c) := by
  pointwise [k0_pay11]

/-- A sum starts at zero. -/
theorem pay10_at (r : Fin 256) (c : Fin 512) : k0_pay10 (F := Ideal) (ix2 r c) = 0 := by
  pointwise [k0_pay10]

/-! ## The halving tree -/

/-- One halving: entry `k` and the entry `m` further. -/
def halve (m : ℕ) (f : ℕ → EReal) (k : ℕ) : EReal := f k + f (m + k)

/-- A halving keeps the sum. -/
theorem sum_halve (m : ℕ) (f : ℕ → EReal) : ∑ k ∈ Finset.range m, halve m f k = ∑ k ∈ Finset.range (m + m), f k := by
  rw [Finset.sum_range_add, ← Finset.sum_add_distrib]; rfl

/-- Column `c` of 256 rows, as a function of the row's number. -/
def rowsOf (v : FVec Ideal S256x512 .f32) (c : Fin 512) (k : ℕ) : EReal := v (ix2 ⟨k % 256, Nat.mod_lt _ (by decide)⟩ c)

/-- Six halvings take 256 rows to 4. -/
theorem pay14_at (v : FVec Ideal S256x512 .f32) (r : Fin 4) (c : Fin 512) :
    k0_pay14 (F := Ideal) v (ix2 r c)
      = halve 4 (halve 8 (halve 16 (halve 32 (halve 64 (halve 128 (rowsOf v c)))))) r.val := by
  have hv : ∀ (k : ℕ) (h : k < 256), v (ix2 ⟨k, h⟩ c) = rowsOf v c k := fun k h => by
    unfold rowsOf; congr 2; exact Fin.ext (Nat.mod_eq_of_lt h).symm
  pointwise [k0_pay14]
  simp only [hv]
  rfl

/-- The four rows left, summed, are all 256. -/
theorem pay14_sum (v : FVec Ideal S256x512 .f32) (c : Fin 512) :
    k0_pay14 (F := Ideal) v (ix2 0 c) + k0_pay14 (F := Ideal) v (ix2 2 c)
        + (k0_pay14 (F := Ideal) v (ix2 1 c) + k0_pay14 (F := Ideal) v (ix2 3 c))
      = ∑ k : Fin 256, v (ix2 k c) := by
  rw [pay14_at, pay14_at, pay14_at, pay14_at]
  have e : ∑ k : Fin 256, v (ix2 k c) = ∑ k ∈ Finset.range (128 + 128), rowsOf v c k := by
    rw [Finset.sum_range]
    refine Finset.sum_congr rfl fun k _ => ?_
    unfold rowsOf; congr 2; exact Fin.ext (Nat.mod_eq_of_lt k.isLt).symm
  rw [e, ← sum_halve, ← sum_halve 64, ← sum_halve 32, ← sum_halve 16, ← sum_halve 8, ← sum_halve 4, ← sum_halve 2,
    ← sum_halve 1, Finset.sum_range_one]
  rfl

/-- The mean of 256 sums of rows: their sum times one over the count. -/
theorem pay12_at (v : FVec Ideal S256x512 .f32) (c : Fin 512) :
    k0_pay12 (F := Ideal) v (ix1 c) = Ideal.div (∑ k : Fin 256, v (ix2 k c)) count := by
  rw [← mul_factor, ← pay14_sum]
  change mulf (shapeCast S512 (addf
      (extractStridedSlice S1x512 ![0, 0] (addf
        (extractStridedSlice S2x512 ![0, 0] (k0_pay14 (F := Ideal) v) slices_S4x512_o0_0_S2x512)
        (extractStridedSlice S2x512 ![2, 0] (k0_pay14 (F := Ideal) v) slices_S4x512_o2_0_S2x512))
        slices_S2x512_o0_0_S1x512)
      (extractStridedSlice S1x512 ![1, 0] (addf
        (extractStridedSlice S2x512 ![0, 0] (k0_pay14 (F := Ideal) v) slices_S4x512_o0_0_S2x512)
        (extractStridedSlice S2x512 ![2, 0] (k0_pay14 (F := Ideal) v) slices_S4x512_o2_0_S2x512))
        slices_S2x512_o1_0_S1x512))
      shapeCasts_S1x512_S512) (broadcast S512 (Scalar.ofBits .f32 0x39800000#32)) (ix1 c) = _
  generalize k0_pay14 (F := Ideal) v = w
  pointwise

/-- The deviation from 256 sums of squares: the root of their sum over the count, the small constant added. -/
theorem pay2_at (v : FVec Ideal S256x512 .f32) (c : Fin 512) :
    k0_pay2 (F := Ideal) (k0_pay14 v) (ix1 c) = Ideal.sqrt (Ideal.div (∑ k : Fin 256, v (ix2 k c)) count + eps) := by
  rw [← mul_factor, ← pay14_sum]
  generalize k0_pay14 (F := Ideal) v = w
  pointwise [k0_pay2, eps]

end Cert.KernelIdeal.Value

end
-- ==== Proof.KernelMath.lean ====
/-
  The kernel's phases over the extended reals: its tables hold the columns of the plain layers, and its result their
  normalised columns.
-/
module

public import proofs.«01_k».proof.Proof.Payloads
public import proofs.«01_k».proof.Proof.Blocks
public import Idealize.ShloMosaic.Lib.Pipeline.ValueKit.Acc

@[expose] public section

noncomputable section

namespace Cert.KernelIdeal.Value

open Cert.KernelIdeal Cert.KernelIdeal.Gen Cert.KernelIdeal.Body
open Idealize.ShloMosaic Cert.Spec

/-- Column `c` of an array of 4096 rows. -/
def col (T : Vec Ideal S4096x512 .f32) (c : Fin 512) (n : Fin 4096) : EReal := T (ix2 n c)

/-! ## The statistics -/

/-- A column summed by rows `r` of 256 over 16 slabs is the column's sum. -/
theorem sum_slabs (f : Fin 4096 → EReal) :
    ∑ r : Fin 256, ∑ j ∈ Finset.range 16, f ⟨(256 * j + r.val) % 4096, Nat.mod_lt _ (by decide)⟩ = ∑ n, f n := by
  rw [← Fin.sum_mul_add_fin 16 256 f, Finset.sum_comm, Finset.sum_range]
  refine Finset.sum_congr rfl fun j _ => Finset.sum_congr rfl fun r _ => congrArg f (Fin.ext ?_)
  show (256 * j.val + r.val) % 4096 = j.val * 256 + r.val
  omega

/-- The first loop's sum at a row and a column, after `k` slabs. -/
theorem sum1_at (T : Vec Ideal S4096x512 .f32) (k : ℕ) (r : Fin 256) (c : Fin 512) :
    sum1 (F := Ideal) T k (ix2 r c)
      = ∑ j ∈ Finset.range k, col T c ⟨(256 * j + r.val) % 4096, Nat.mod_lt _ (by decide)⟩ := by
  induction k with
  | zero => exact pay10_at r c
  | succ k ih => rw [Finset.sum_range_succ, ← ih]; exact pay11_at _ _ r c

/-- The kernel's mean of a column. -/
theorem mean_at (T : Vec Ideal S4096x512 .f32) (c : Fin 512) : meanV (F := Ideal) T (ix1 c) = mean (col T c) := by
  unfold meanV mean
  rw [pay12_at, ← sum_slabs]
  simp only [sum1_at]

/-- The second loop's sum at a row and a column, after `k` slabs. -/
theorem sum2_at (T : Vec Ideal S4096x512 .f32) (k : ℕ) (r : Fin 256) (c : Fin 512) :
    sum2 (F := Ideal) (sum1 T 16) T k (ix2 r c)
      = ∑ j ∈ Finset.range k, (fun n => (col T c n - mean (col T c)) * (col T c n - mean (col T c)))
          ⟨(256 * j + r.val) % 4096, Nat.mod_lt _ (by decide)⟩ := by
  induction k with
  | zero => exact pay10_at r c
  | succ k ih =>
    rw [Finset.sum_range_succ, ← ih, ← mean_at]; exact pay13_at _ _ _ r c

/-- The kernel's deviation of a column. -/
theorem dev_at (T : Vec Ideal S4096x512 .f32) (c : Fin 512) :
    k0_pay2 (F := Ideal) (s4V T) (ix1 c) = dev (col T c) := by
  unfold s4V dev
  rw [pay2_at, ← sum_slabs]
  simp only [sum2_at]

/-! ## The tables -/

/-- A table of normalised rows times weights, at an index. -/
theorem slabs_at (T : Vec Ideal S4096x512 .f32) (g be : Vec Ideal S1x1x512 .f32) (W : Vec Ideal S1x512x512 .f32)
    (n : Fin 4096) (c : Fin 512) :
    slabs (F := Ideal) T g be W (ix2 n c)
      = lin (fun n j => normed (col T j) (g (ix3 0 0 j)) (be (ix3 0 0 j)) n) (fun j => W (ix3 0 j c)) n := by
  have e : (⟨(512 * (n.val / 512) + n.val % 512) % 4096, Nat.mod_lt _ (by decide)⟩ : Fin 4096) = n :=
    Fin.ext (by show (512 * (n.val / 512) + n.val % 512) % 4096 = n.val; omega)
  refine (pay5_at _ _ g be (rows512 T (n.val / 512)) W ⟨n.val % 512, Nat.mod_lt _ (by decide)⟩ c).trans ?_
  unfold lin normed
  refine Finset.sum_congr rfl fun j _ => ?_
  rw [mean_at, dev_at]
  have h : rows512 T (n.val / 512) (ix2 ⟨n.val % 512, Nat.mod_lt _ (by decide)⟩ j) = col T j n :=
    congrArg (fun k => T (ix2 k j)) e
  rw [h]

/-- An array of blocks at a row: the row's block at the row's place in it. -/
theorem blocks_at (B : ℕ → FVec Ideal S256x512 .f32) (n : Fin 4096) (c : Fin 512) :
    blocks (F := Ideal) B (ix2 n c) = B (n.val / 256) (ix2 ⟨n.val % 256, Nat.mod_lt _ (by decide)⟩ c) := rfl

/-- A row is its block's first row plus its place in the block. -/
theorem row_back (n : Fin 4096) : (⟨(256 * (n.val / 256) + n.val % 256) % 4096, Nat.mod_lt _ (by decide)⟩ : Fin 4096) = n :=
  Fin.ext (by show (256 * (n.val / 256) + n.val % 256) % 4096 = n.val; omega)

variable (X : Vec Ideal S1x4096x512 .f32) (A : Vec Ideal S1x4096x4096 .f32) (W : Vec Ideal S5x512x512 .f32)
  (P : Vec Ideal S5x8x512 .f32)

/-- The adjacency matrix. -/
def adj (n k : Fin 4096) : EReal := A (ix3 0 n k)

/-- The features that layer `l` takes in. -/
def feat : ℕ → Fin 4096 → Fin 512 → EReal
  | 0 => fun n j => X (ix3 0 n j)
  | l + 1 => fun n j => normed (col (hh (F := Ideal) X A W P l) j) (pblk P (l + 2) (ix3 0 1 j)) (pblk P (l + 2) (ix3 0 2 j)) n

/-- The features after a layer, by the features before it. -/
theorem feat_succ (l : ℕ) (n : Fin 4096) (j : Fin 512) :
    feat X A W P (l + 1) n j
      = normed (col (hh (F := Ideal) X A W P l) j) (pblk P (l + 2) (ix3 0 1 j)) (pblk P (l + 2) (ix3 0 2 j)) n := rfl

/-- The phase whose weights layer `l` takes. -/
def phase : ℕ → ℕ
  | 0 => 0
  | l + 1 => l + 2

/-- The table of layer `l`: its features times its weights. -/
theorem tt_at (l : ℕ) (n : Fin 4096) (c : Fin 512) :
    tt (F := Ideal) X A W P l (ix2 n c) = lin (feat X A W P l) (fun j => wblk W (phase l) (ix3 0 j c)) n := by
  cases l with
  | zero =>
    refine (blocks_at _ n c).trans ((pay1_at _ _ _ c).trans ?_)
    refine Finset.sum_congr rfl fun j _ => ?_
    exact congrArg (· * wblk W 0 (ix3 0 j c)) (congrArg (fun k => X (ix3 0 k j)) (row_back n))
  | succ l => exact slabs_at _ _ _ _ n c

/-- A column of layer `l`, before its normalisation. -/
theorem hh_col (l : ℕ) (c : Fin 512) :
    col (hh (F := Ideal) X A W P l) c
      = layer (adj A) (feat X A W P l) (fun j => wblk W (phase l) (ix3 0 j c)) (pblk P (l + 1) (ix3 0 0 c)) := by
  funext n
  refine (blocks_at _ n c).trans ((pay7_at _ _ _ _ c).trans ?_)
  unfold layer conv
  refine congrArg₂ max (congrArg (· + pblk P (l + 1) (ix3 0 0 c)) (Finset.sum_congr rfl fun k _ => ?_)) rfl
  rw [tt_at]
  exact congrArg (· * _) (congrArg (fun m => A (ix3 0 m k)) (row_back n))

/-- The result at a row of block `b`: the normalised column of the last layer. -/
theorem outB_at (b : ℕ) (r c : Fin 256) (n : Fin 4096) (hn : n.val = 256 * b + r.val) (c' : Fin 512) (hc : c'.val = c.val) :
    outB (F := Ideal) X A W P b (ix2 r c)
      = normed (col (hh (F := Ideal) X A W P 2) c') (pblk P 4 (ix3 0 1 c')) (pblk P 4 (ix3 0 2 c')) n := by
  refine (pay9_at _ _ _ _ _ r c c' hc).trans ?_
  rw [mean_at, dev_at]
  have e : rows (hh (F := Ideal) X A W P 2) b (ix2 r c') = col (hh (F := Ideal) X A W P 2) c' n :=
    congrArg (fun k => hh (F := Ideal) X A W P 2 (ix2 k c')) (Fin.ext (by
      show (256 * b + r.val) % 4096 = n.val; omega))
  rw [e]; rfl

end Cert.KernelIdeal.Value

end
-- ==== Proof.HostArrays.lean ====
/-
  What the host code before the launch puts into the kernel's two stacked arrays, entry by entry: each phase's weights and
  its rows of parameters.
-/
module

public import proofs.«01_k».proof.Proof.KernelMath
public import Idealize.ShloMosaic.Lib.StableHlo.ReadAt

@[expose] public section

noncomputable section

namespace Cert.KernelIdeal.Value

open Cert.KernelIdeal Cert.KernelIdeal.Gen Cert.KernelIdeal.Body
open Idealize.ShloMosaic Idealize.ShloMosaic.TcCoe Idealize.SL.Sem Cert.Spec

variable (m : (ℓ : Loc nD τ sig) → Buf (Elt Ideal) ℓ) (c : Dev nD)

/-- The first layer's weights. -/
theorem weights_0 (j k : Fin 512) : arrW m c (ix3 0 j k) = m ((c : Thread nD τ).loc main_arg2) (ix2 j k) := by
  unfold arrW V
  after_reads_at
  after_reads_at

/-- The second layer's weights. -/
theorem weights_2 (j k : Fin 512) : arrW m c (ix3 2 j k) = m ((c : Thread nD τ).loc main_arg4) (ix2 j k) := by
  unfold arrW V
  after_reads_at
  after_reads_at

/-- The third layer's weights, in the first 256 columns. -/
theorem weights_3 (j : Fin 512) (k : Fin 256) (k' : Fin 512) (hk : k'.val = k.val) :
    arrW m c (ix3 3 j k') = m ((c : Thread nD τ).loc main_arg6) (ix2 j k) := by
  unfold arrW V
  after_reads_at
  after_reads_at
  rw [dif_pos (by omega)]
  exact congrArg (fun i => m ((c : Thread nD τ).loc main_arg6) (ix2 j i)) (Fin.ext hk)

/-- The first bias. -/
theorem param_10 (k : Fin 512) : arrP m c (ix3 1 0 k) = m ((c : Thread nD τ).loc main_arg3) (ix1 k) := by
  unfold arrP V
  after_reads_at
  after_reads_at
  after_reads_at

/-- The second bias. -/
theorem param_20 (k : Fin 512) : arrP m c (ix3 2 0 k) = m ((c : Thread nD τ).loc main_arg5) (ix1 k) := by
  unfold arrP V
  after_reads_at
  after_reads_at
  after_reads_at

/-- The first scale. -/
theorem param_21 (k : Fin 512) : arrP m c (ix3 2 1 k) = m ((c : Thread nD τ).loc main_arg8) (ix1 k) := by
  unfold arrP V
  after_reads_at
  after_reads_at
  after_reads_at

/-- The first shift. -/
theorem param_22 (k : Fin 512) : arrP m c (ix3 2 2 k) = m ((c : Thread nD τ).loc main_arg9) (ix1 k) := by
  unfold arrP V
  after_reads_at
  after_reads_at
  after_reads_at

/-- The second scale. -/
theorem param_31 (k : Fin 512) : arrP m c (ix3 3 1 k) = m ((c : Thread nD τ).loc main_arg10) (ix1 k) := by
  unfold arrP V
  after_reads_at
  after_reads_at
  after_reads_at

/-- The second shift. -/
theorem param_32 (k : Fin 512) : arrP m c (ix3 3 2 k) = m ((c : Thread nD τ).loc main_arg11) (ix1 k) := by
  unfold arrP V
  after_reads_at
  after_reads_at
  after_reads_at

/-- The third bias, in the first 256 columns. -/
theorem param_30 (k : Fin 256) (k' : Fin 512) (hk : k'.val = k.val) :
    arrP m c (ix3 3 0 k') = m ((c : Thread nD τ).loc main_arg7) (ix1 k) := by
  unfold arrP V
  after_reads_at
  after_reads_at
  after_reads_at
  rw [dif_pos (by omega)]
  exact congrArg (fun i => m ((c : Thread nD τ).loc main_arg7) (ix1 i)) (Fin.ext hk)

/-- The third scale, in the first 256 columns. -/
theorem param_41 (k : Fin 256) (k' : Fin 512) (hk : k'.val = k.val) :
    arrP m c (ix3 4 1 k') = m ((c : Thread nD τ).loc main_arg12) (ix1 k) := by
  unfold arrP V
  after_reads_at
  after_reads_at
  after_reads_at
  rw [dif_pos (by omega)]
  exact congrArg (fun i => m ((c : Thread nD τ).loc main_arg12) (ix1 i)) (Fin.ext hk)

/-- The third shift, in the first 256 columns. -/
theorem param_42 (k : Fin 256) (k' : Fin 512) (hk : k'.val = k.val) :
    arrP m c (ix3 4 2 k') = m ((c : Thread nD τ).loc main_arg13) (ix1 k) := by
  unfold arrP V
  after_reads_at
  after_reads_at
  after_reads_at
  rw [dif_pos (by omega)]
  exact congrArg (fun i => m ((c : Thread nD τ).loc main_arg13) (ix1 i)) (Fin.ext hk)

end Cert.KernelIdeal.Value

end
-- ==== Proof.KernelValue.lean ====
/-
  The kernel's result over the extended reals is the network of three layers over its arguments.
-/
module

public import proofs.«01_k».proof.Proof.HostArrays
public import proofs.«01_k».proof.Proof.ValueRun

@[expose] public section

noncomputable section

namespace Cert.KernelIdeal.Value

open Cert.KernelIdeal Cert.KernelIdeal.Gen Cert.KernelIdeal.Body
open Idealize.ShloMosaic Idealize.ShloMosaic.TcCoe Idealize.SL.Sem Cert.Spec

variable (m : (ℓ : Loc nD τ sig) → Buf (Elt Ideal) ℓ) (c : Dev nD)

/-- The network over the arguments in memory `m`. -/
def network : Fin 4096 → Fin 256 → EReal :=
  net (fun n k => m ((c : Thread nD τ).loc main_arg1) (ix3 0 n k)) (fun n j => m ((c : Thread nD τ).loc main_arg0) (ix3 0 n j))
    (fun j k => m ((c : Thread nD τ).loc main_arg2) (ix2 j k)) (fun k => m ((c : Thread nD τ).loc main_arg3) (ix1 k))
    (fun j k => m ((c : Thread nD τ).loc main_arg4) (ix2 j k)) (fun k => m ((c : Thread nD τ).loc main_arg5) (ix1 k))
    (fun j k => m ((c : Thread nD τ).loc main_arg6) (ix2 j k)) (fun k => m ((c : Thread nD τ).loc main_arg7) (ix1 k))
    (fun k => m ((c : Thread nD τ).loc main_arg8) (ix1 k)) (fun k => m ((c : Thread nD τ).loc main_arg9) (ix1 k))
    (fun k => m ((c : Thread nD τ).loc main_arg10) (ix1 k)) (fun k => m ((c : Thread nD τ).loc main_arg11) (ix1 k))
    (fun k => m ((c : Thread nD τ).loc main_arg12) (ix1 k)) (fun k => m ((c : Thread nD τ).loc main_arg13) (ix1 k))

/-- The adjacency matrix is the second argument. -/
theorem adj_eq : adj (arrA m c) = fun n k => m ((c : Thread nD τ).loc main_arg1) (ix3 0 n k) := by
  funext n k; exact congrFun (V_main_arg1 m c) (ix3 0 n k)

/-- The first layer's features are the first argument. -/
theorem feat_0 : feat (arrX m c) (arrA m c) (arrW m c) (arrP m c) 0
    = fun n j => m ((c : Thread nD τ).loc main_arg0) (ix3 0 n j) := by
  funext n j; exact congrFun (V_main_arg0 m c) (ix3 0 n j)

/-- The features after the first layer. -/
theorem feat_1 : feat (arrX m c) (arrA m c) (arrW m c) (arrP m c) 1
    = next (fun n k => m ((c : Thread nD τ).loc main_arg1) (ix3 0 n k)) (fun n j => m ((c : Thread nD τ).loc main_arg0) (ix3 0 n j))
        (fun j k => m ((c : Thread nD τ).loc main_arg2) (ix2 j k)) (fun k => m ((c : Thread nD τ).loc main_arg3) (ix1 k))
        (fun k => m ((c : Thread nD τ).loc main_arg8) (ix1 k)) (fun k => m ((c : Thread nD τ).loc main_arg9) (ix1 k)) := by
  funext n j
  unfold next
  rw [feat_succ, hh_col, adj_eq, feat_0]
  have e : (fun i : Fin 512 => wblk (arrW m c) (phase 0) (ix3 0 i j)) = fun i => m ((c : Thread nD τ).loc main_arg2) (ix2 i j) :=
    funext fun i => weights_0 m c i j
  rw [e]
  have p0 : pblk (arrP m c) (0 + 1) (ix3 0 0 j) = _ := param_10 m c j
  have p1 : pblk (arrP m c) (0 + 2) (ix3 0 1 j) = _ := param_21 m c j
  have p2 : pblk (arrP m c) (0 + 2) (ix3 0 2 j) = _ := param_22 m c j
  rw [p0, p1, p2]

/-- The features after the second layer. -/
theorem feat_2 : feat (arrX m c) (arrA m c) (arrW m c) (arrP m c) 2
    = next (fun n k => m ((c : Thread nD τ).loc main_arg1) (ix3 0 n k)) (feat (arrX m c) (arrA m c) (arrW m c) (arrP m c) 1)
        (fun j k => m ((c : Thread nD τ).loc main_arg4) (ix2 j k)) (fun k => m ((c : Thread nD τ).loc main_arg5) (ix1 k))
        (fun k => m ((c : Thread nD τ).loc main_arg10) (ix1 k)) (fun k => m ((c : Thread nD τ).loc main_arg11) (ix1 k)) := by
  funext n j
  unfold next
  rw [feat_succ, hh_col, adj_eq]
  have e : (fun i : Fin 512 => wblk (arrW m c) (phase 1) (ix3 0 i j)) = fun i => m ((c : Thread nD τ).loc main_arg4) (ix2 i j) :=
    funext fun i => weights_2 m c i j
  rw [e]
  have p0 : pblk (arrP m c) (1 + 1) (ix3 0 0 j) = _ := param_20 m c j
  have p1 : pblk (arrP m c) (1 + 2) (ix3 0 1 j) = _ := param_31 m c j
  have p2 : pblk (arrP m c) (1 + 2) (ix3 0 2 j) = _ := param_32 m c j
  rw [p0, p1, p2]

/-- The result at a row and a column is the network's. -/
theorem result_eq (n : Fin 4096) (k : Fin 256) : result m c (ix2 n k) = network m c n k := by
  have hk : k.val < 512 := by omega
  rw [result_at m c (ix2 n k) (n.val / 256) (ix2 ⟨n.val % 256, Nat.mod_lt _ (by decide)⟩ k)
    (by show n.val = 256 * (n.val / 256) + n.val % 256; omega) rfl]
  rw [outB_at _ _ _ _ _ _ k n (by show n.val = 256 * (n.val / 256) + n.val % 256; omega) ⟨k.val, hk⟩ rfl, hh_col, adj_eq,
    feat_2, feat_1]
  unfold network net
  rw [next]
  have e : (fun i : Fin 512 => wblk (arrW m c) (phase 2) (ix3 0 i ⟨k.val, hk⟩))
      = fun i => m ((c : Thread nD τ).loc main_arg6) (ix2 i k) := funext fun i => weights_3 m c i k ⟨k.val, hk⟩ rfl
  rw [e]
  have p0 : pblk (arrP m c) (2 + 1) (ix3 0 0 ⟨k.val, hk⟩) = _ := param_30 m c k ⟨k.val, hk⟩ rfl
  have p1 : pblk (arrP m c) 4 (ix3 0 1 ⟨k.val, hk⟩) = _ := param_41 m c k ⟨k.val, hk⟩ rfl
  have p2 : pblk (arrP m c) 4 (ix3 0 2 ⟨k.val, hk⟩) = _ := param_42 m c k ⟨k.val, hk⟩ rfl
  rw [p0, p1, p2]

end Cert.KernelIdeal.Value

end
-- ==== Proof.Claims.lean ====
/-
  The reference's frame and the equality of the two programs' results.
-/
module

public import proofs.«01_k».proof.Defs
public import proofs.«01_k».proof.Proof.Reference
public import proofs.«01_k».proof.Proof.KernelValue
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference leaves its arguments unchanged and every counter at zero, having no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the reference, from equal arguments, end with equal results: both are the network's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Body.result m c, Cert.KernelIdeal.Body.run_value m ρ, ?_⟩
  refine (θ_run Cert.ReferenceIdeal.defs _ _).mono (fun r h c => ⟨?_, (h c).2⟩)
    (Cert.ReferenceIdeal.Value.run (F := Ideal) m' ρ')
  refine (h c).1.trans ((Cert.ReferenceIdeal.Read.val_main_v88_eq _).trans ?_)
  obtain ⟨h0, h1, h2, h3, h4, h5, h6, h7, h8, h9, h10, h11, h12, h13⟩ := hagree c
  show Cert.ReferenceIdeal.Read.val_main_v88 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      = _
  rw [h0, h1, h2, h3, h4, h5, h6, h7, h8, h9, h10, h11, h12, h13]
  funext y
  rw [eq_ix2 y]
  refine (Cert.ReferenceIdeal.Layers.result_at _ _ _ _ _ _ _ _ _ _ _ _ _ _ (y 0) (y 1)).trans ?_
  exact (Cert.KernelIdeal.Value.result_eq m c (y 0) (y 1)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.ValueRun
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel.Body.frame, Cert.KernelIdeal.Body.frame, frame_reference, trivial, algebraic⟩

end Cert.Proof

end
